-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "turn_n" .f32 0x3A490FDB#32 (((1 / 4096) * Real.pi : ℝ) : EReal)
  ∧ IdealRules.named_const.Statement Cert.KernelIdeal.κ "turn_n2" .f32 0x3D490FDB#32 (((1 / 64) * Real.pi : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x8192x768 : Shape := ⟨3, ![4, 8192, 768]⟩
abbrev S_ : Shape := ⟨0, ![]⟩

class Facts : Prop where
  bcast_S_S4x8192x768 : S_.BroadcastsInDim S4x8192x768 (![] : Fin 0 → Fin S4x8192x768.rank)

variable [Facts]

def fn {F : FTy → Type} [FloatOps F] (main_arg0 : FVec F S4x8192x768 .f32) : IVec S4x8192x768 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  main_v2
-- ==== Kernel.lean ====
abbrev S4x8192x768 : Shape := ⟨3, ![4, 8192, 768]⟩
abbrev S72x128 : Shape := ⟨2, ![72, 128]⟩
abbrev S_ : Shape := ⟨0, ![]⟩
abbrev S72x64 : Shape := ⟨2, ![72, 64]⟩
abbrev S33x64 : Shape := ⟨2, ![33, 64]⟩
abbrev S32x64 : Shape := ⟨2, ![32, 64]⟩
abbrev S7x64 : Shape := ⟨2, ![7, 64]⟩
abbrev S1x8192x128 : Shape := ⟨3, ![1, 8192, 128]⟩
abbrev S8192x128 : Shape := ⟨2, ![8192, 128]⟩
abbrev S128x8192 : Shape := ⟨2, ![128, 8192]⟩
abbrev S72x8192 : Shape := ⟨2, ![72, 8192]⟩
abbrev S72x64x128 : Shape := ⟨3, ![72, 64, 128]⟩
abbrev S72x64x1 : Shape := ⟨3, ![72, 64, 1]⟩
abbrev S65x64x128 : Shape := ⟨3, ![65, 64, 128]⟩
abbrev S64x65x128 : Shape := ⟨3, ![64, 65, 128]⟩
abbrev S64x8320 : Shape := ⟨2, ![64, 8320]⟩
abbrev S64x8192 : Shape := ⟨2, ![64, 8192]⟩
abbrev S72x8320 : Shape := ⟨2, ![72, 8320]⟩
abbrev S33x8320 : Shape := ⟨2, ![33, 8320]⟩
abbrev S32x8192 : Shape := ⟨2, ![32, 8192]⟩
abbrev S64x128 : Shape := ⟨2, ![64, 128]⟩
abbrev S128x128 : Shape := ⟨2, ![128, 128]⟩
abbrev S8320 : Shape := ⟨1, ![8320]⟩
abbrev S1x8320 : Shape := ⟨2, ![1, 8320]⟩
abbrev S65x128 : Shape := ⟨2, ![65, 128]⟩
abbrev S128 : Shape := ⟨1, ![128]⟩
abbrev S1x128 : Shape := ⟨2, ![1, 128]⟩
abbrev S8192 : Shape := ⟨1, ![8192]⟩
abbrev S1x8192 : Shape := ⟨2, ![1, 8192]⟩
abbrev S128x1x128 : Shape := ⟨3, ![128, 1, 128]⟩
abbrev S1x64x128 : Shape := ⟨3, ![1, 64, 128]⟩
abbrev S128x64x128 : Shape := ⟨3, ![128, 64, 128]⟩

abbrev nBuf : Space → Nat
  | .hbm => 97
  | .vmem => 12
  | .smem => 0
  | _ => 0

abbrev bufTy : (tb : Table) → Fin (tcTables nBuf tb) → BufTy
  | .hbm, ⟨0, _⟩ => ⟨S4x8192x768, .f32⟩
  | .hbm, ⟨1, _⟩ => ⟨S72x128, .i32⟩
  | .hbm, ⟨2, _⟩ => ⟨S_, .i32⟩
  | .hbm, ⟨3, _⟩ => ⟨S72x128, .i32⟩
  | .hbm, ⟨4, _⟩ => ⟨S72x128, .i1⟩
  | .hbm, ⟨5, _⟩ => ⟨S72x128, .i32⟩
  | .hbm, ⟨6, _⟩ => ⟨S72x128, .i32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S72x128, .i32⟩
  | .hbm, ⟨12, _⟩ => ⟨S_, .i32⟩
  | .hbm, ⟨13, _⟩ => ⟨S72x128, .i32⟩
  | .hbm, ⟨14, _⟩ => ⟨S72x128, .i32⟩
  | .hbm, ⟨15, _⟩ => ⟨S72x128, .f32⟩
  | .hbm, ⟨16, _⟩ => ⟨S72x128, .f32⟩
  | .hbm, ⟨17, _⟩ => ⟨S72x128, .f32⟩
  | .hbm, ⟨18, _⟩ => ⟨S72x128, .f32⟩
  | .hbm, ⟨19, _⟩ => ⟨S_, .f32⟩
  | .hbm, ⟨20, _⟩ => ⟨S_, .f32⟩
  | .hbm, ⟨21, _⟩ => ⟨S72x128, .f32⟩
  | .hbm, ⟨22, _⟩ => ⟨S72x128, .f32⟩
  | .hbm, ⟨23, _⟩ => ⟨S72x128, .f32⟩
  | .hbm, ⟨24, _⟩ => ⟨S_, .f32⟩
  | .hbm, ⟨25, _⟩ => ⟨S_, .f32⟩
  | .hbm, ⟨26, _⟩ => ⟨S72x128, .f32⟩
  | .hbm, ⟨27, _⟩ => ⟨S72x128, .f32⟩
  | .hbm, ⟨28, _⟩ => ⟨S72x64, .i32⟩
  | .hbm, ⟨29, _⟩ => ⟨S_, .i32⟩
  | .hbm, ⟨30, _⟩ => ⟨S72x64, .i32⟩
  | .hbm, ⟨31, _⟩ => ⟨S72x64, .i1⟩
  | .hbm, ⟨32, _⟩ => ⟨S72x64, .i32⟩
  | .hbm, ⟨33, _⟩ => ⟨S72x64, .i32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S72x64, .i32⟩
  | .hbm, ⟨39, _⟩ => ⟨S_, .i32⟩
  | .hbm, ⟨40, _⟩ => ⟨S72x64, .i32⟩
  | .hbm, ⟨41, _⟩ => ⟨S72x64, .i32⟩
  | .hbm, ⟨42, _⟩ => ⟨S72x64, .f32⟩
  | .hbm, ⟨43, _⟩ => ⟨S72x64, .f32⟩
  | .hbm, ⟨44, _⟩ => ⟨S72x64, .f32⟩
  | .hbm, ⟨45, _⟩ => ⟨S72x64, .f32⟩
  | .hbm, ⟨46, _⟩ => ⟨S_, .f32⟩
  | .hbm, ⟨47, _⟩ => ⟨S_, .f32⟩
  | .hbm, ⟨48, _⟩ => ⟨S72x64, .f32⟩
  | .hbm, ⟨49, _⟩ => ⟨S72x64, .f32⟩
  | .hbm, ⟨50, _⟩ => ⟨S72x64, .f32⟩
  | .hbm, ⟨51, _⟩ => ⟨S_, .f32⟩
  | .hbm, ⟨52, _⟩ => ⟨S_, .f32⟩
  | .hbm, ⟨53, _⟩ => ⟨S72x64, .f32⟩
  | .hbm, ⟨54, _⟩ => ⟨S72x64, .f32⟩
  | .hbm, ⟨55, _⟩ => ⟨S33x64, .i32⟩
  | .hbm, ⟨56, _⟩ => ⟨S33x64, .i32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S33x64, .i32⟩
  | .hbm, ⟨62, _⟩ => ⟨S_, .i32⟩
  | .hbm, ⟨63, _⟩ => ⟨S33x64, .i32⟩
  | .hbm, ⟨64, _⟩ => ⟨S33x64, .i32⟩
  | .hbm, ⟨65, _⟩ => ⟨S33x64, .f32⟩
  | .hbm, ⟨66, _⟩ => ⟨S33x64, .f32⟩
  | .hbm, ⟨67, _⟩ => ⟨S33x64, .f32⟩
  | .hbm, ⟨68, _⟩ => ⟨S33x64, .f32⟩
  | .hbm, ⟨69, _⟩ => ⟨S33x64, .f32⟩
  | .hbm, ⟨70, _⟩ => ⟨S33x64, .f32⟩
  | .hbm, ⟨71, _⟩ => ⟨S32x64, .i32⟩
  | .hbm, ⟨72, _⟩ => ⟨S_, .i32⟩
  | .hbm, ⟨73, _⟩ => ⟨S32x64, .i32⟩
  | .hbm, ⟨74, _⟩ => ⟨S32x64, .i32⟩
  | .hbm, ⟨75, _⟩ => ⟨S32x64, .i32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S32x64, .i32⟩
  | .hbm, ⟨81, _⟩ => ⟨S_, .i32⟩
  | .hbm, ⟨82, _⟩ => ⟨S32x64, .i32⟩
  | .hbm, ⟨83, _⟩ => ⟨S32x64, .i32⟩
  | .hbm, ⟨84, _⟩ => ⟨S32x64, .f32⟩
  | .hbm, ⟨85, _⟩ => ⟨S32x64, .f32⟩
  | .hbm, ⟨86, _⟩ => ⟨S32x64, .f32⟩
  | .hbm, ⟨87, _⟩ => ⟨S32x64, .f32⟩
  | .hbm, ⟨88, _⟩ => ⟨S32x64, .f32⟩
  | .hbm, ⟨89, _⟩ => ⟨S32x64, .f32⟩
  | .hbm, ⟨90, _⟩ => ⟨S_, .f32⟩
  | .hbm, ⟨91, _⟩ => ⟨S7x64, .f32⟩
  | .hbm, ⟨92, _⟩ => ⟨S72x64, .f32⟩
  | .hbm, ⟨93, _⟩ => ⟨S_, .f32⟩
  | .hbm, ⟨94, _⟩ => ⟨S7x64, .f32⟩
  | .hbm, ⟨95, _⟩ => ⟨S72x64, .f32⟩
  | .hbm, ⟨96, _⟩ => ⟨S4x8192x768, .f32⟩
  | .local _ .vmem, ⟨0, _⟩ => ⟨S1x8192x128, .f32⟩
  | .local _ .vmem, ⟨1, _⟩ => ⟨S1x8192x128, .f32⟩
  | .local _ .vmem, ⟨2, _⟩ => ⟨S72x128, .f32⟩
  | .local _ .vmem, ⟨3, _⟩ => ⟨S72x128, .f32⟩
  | .local _ .vmem, ⟨4, _⟩ => ⟨S72x64, .f32⟩
  | .local _ .vmem, ⟨5, _⟩ => ⟨S72x64, .f32⟩
  | .local _ .vmem, ⟨6, _⟩ => ⟨S72x64, .f32⟩
  | .local _ .vmem, ⟨7, _⟩ => ⟨S72x64, .f32⟩
  | .local _ .vmem, ⟨8, _⟩ => ⟨S33x64, .f32⟩
  | .local _ .vmem, ⟨9, _⟩ => ⟨S32x64, .f32⟩
  | .local _ .vmem, ⟨10, _⟩ => ⟨S1x8192x128, .f32⟩
  | .local _ .vmem, ⟨11, _⟩ => ⟨S1x8192x128, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_c_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_call2_v0 : Ref sig .tc := ⟨.hbm, 47, rfl⟩
abbrev main_call2_v1 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_call3_v0 : Ref sig .tc := ⟨.hbm, 52, rfl⟩
abbrev main_call3_v1 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_cst_11 : Ref sig .tc := ⟨.hbm, 59, rfl⟩
abbrev main_v37 : Ref sig .tc := ⟨.hbm, 60, rfl⟩
abbrev main_v38 : Ref sig .tc := ⟨.hbm, 61, rfl⟩
abbrev main_c_12 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_13 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_14 : Ref sig .tc := ⟨.hbm, 76, rfl⟩
abbrev main_v51 : Ref sig .tc := ⟨.hbm, 77, rfl⟩
abbrev main_cst_15 : Ref sig .tc := ⟨.hbm, 78, rfl⟩
abbrev main_v52 : Ref sig .tc := ⟨.hbm, 79, rfl⟩
abbrev main_v53 : Ref sig .tc := ⟨.hbm, 80, rfl⟩
abbrev main_c_16 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_17 : Ref sig .tc := ⟨.hbm, 90, rfl⟩
abbrev main_v62 : Ref sig .tc := ⟨.hbm, 91, rfl⟩
abbrev main_v63 : Ref sig .tc := ⟨.hbm, 92, rfl⟩
abbrev main_cst_18 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨2, ![4, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S72x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S72x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S72x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S72x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S72x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S72x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S33x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "turn_n" => some (((1 / 4096) * Real.pi : ℝ) : EReal)
  | "turn_n2" => some (((1 / 64) * Real.pi : ℝ) : EReal)
  | _ => none
-- ==== ReferenceIdeal.lean ====
abbrev S4x8192x768 : Shape := ⟨3, ![4, 8192, 768]⟩
abbrev S4097x8192 : Shape := ⟨2, ![4097, 8192]⟩
abbrev S_ : Shape := ⟨0, ![]⟩
abbrev S4x768x4097 : Shape := ⟨3, ![4, 768, 4097]⟩
abbrev S4x4097x768 : Shape := ⟨3, ![4, 4097, 768]⟩
abbrev S4x768x4 : Shape := ⟨3, ![4, 768, 4]⟩
abbrev S4 : Shape := ⟨1, ![4]⟩
abbrev S4x1x1 : Shape := ⟨3, ![4, 1, 1]⟩
abbrev S768 : Shape := ⟨1, ![768]⟩
abbrev S1x768x1 : Shape := ⟨3, ![1, 768, 1]⟩
abbrev S4x768x4x1 : Shape := ⟨4, ![4, 768, 4, 1]⟩
abbrev S4x768x4x3 : Shape := ⟨4, ![4, 768, 4, 3]⟩
abbrev S4x768x8192 : Shape := ⟨3, ![4, 768, 8192]⟩

abbrev nBuf : Space → Nat
  | .hbm => 86
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S4097x8192, .i32⟩
  | .hbm, ⟨2, _⟩ => ⟨S4097x8192, .i32⟩
  | .hbm, ⟨3, _⟩ => ⟨S4097x8192, .i32⟩
  | .hbm, ⟨4, _⟩ => ⟨S_, .i32⟩
  | .hbm, ⟨5, _⟩ => ⟨S4097x8192, .i32⟩
  | .hbm, ⟨6, _⟩ => ⟨S4097x8192, .i32⟩
  | .hbm, ⟨7, _⟩ => ⟨S4097x8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4097x8192, .f32⟩
  | .hbm, ⟨13, _⟩ => ⟨S4097x8192, .f32⟩
  | .hbm, ⟨14, _⟩ => ⟨S4097x8192, .f32⟩
  | .hbm, ⟨15, _⟩ => ⟨S4097x8192, .f32⟩
  | .hbm, ⟨16, _⟩ => ⟨S4x768x4097, .f32⟩
  | .hbm, ⟨17, _⟩ => ⟨S4x4097x768, .f32⟩
  | .hbm, ⟨18, _⟩ => ⟨S4x768x4097, .f32⟩
  | .hbm, ⟨19, _⟩ => ⟨S4x4097x768, .f32⟩
  | .hbm, ⟨20, _⟩ => ⟨S4x4097x768, .f32⟩
  | .hbm, ⟨21, _⟩ => ⟨S4x4097x768, .f32⟩
  | .hbm, ⟨22, _⟩ => ⟨S4x4097x768, .f32⟩
  | .hbm, ⟨23, _⟩ => ⟨S4x4097x768, .f32⟩
  | .hbm, ⟨24, _⟩ => ⟨S4x4097x768, .f32⟩
  | .hbm, ⟨25, _⟩ => ⟨S4x768x4097, .f32⟩
  | .hbm, ⟨26, _⟩ => ⟨S4x768x4, .f32⟩
  | .hbm, ⟨27, _⟩ => ⟨S4x768x4, .i32⟩
  | .hbm, ⟨28, _⟩ => ⟨S4, .i32⟩
  | .hbm, ⟨29, _⟩ => ⟨S4x1x1, .i32⟩
  | .hbm, ⟨30, _⟩ => ⟨S768, .i32⟩
  | .hbm, ⟨31, _⟩ => ⟨S1x768x1, .i32⟩
  | .hbm, ⟨32, _⟩ => ⟨S_, .f32⟩
  | .hbm, ⟨33, _⟩ => ⟨S4x768x4097, .f32⟩
  | .hbm, ⟨34, _⟩ => ⟨S_, .i32⟩
  | .hbm, ⟨35, _⟩ => ⟨S4x1x1, .i32⟩
  | .hbm, ⟨36, _⟩ => ⟨S4x1x1, .i1⟩
  | .hbm, ⟨37, _⟩ => ⟨S_, .i32⟩
  | .hbm, ⟨38, _⟩ => ⟨S4x1x1, .i32⟩
  | .hbm, ⟨39, _⟩ => ⟨S4x1x1, .i32⟩
  | .hbm, ⟨40, _⟩ => ⟨S4x1x1, .i32⟩
  | .hbm, ⟨41, _⟩ => ⟨S_, .i32⟩
  | .hbm, ⟨42, _⟩ => ⟨S1x768x1, .i32⟩
  | .hbm, ⟨43, _⟩ => ⟨S1x768x1, .i1⟩
  | .hbm, ⟨44, _⟩ => ⟨S_, .i32⟩
  | .hbm, ⟨45, _⟩ => ⟨S1x768x1, .i32⟩
  | .hbm, ⟨46, _⟩ => ⟨S1x768x1, .i32⟩
  | .hbm, ⟨47, _⟩ => ⟨S1x768x1, .i32⟩
  | .hbm, ⟨48, _⟩ => ⟨S_, .i32⟩
  | .hbm, ⟨49, _⟩ => ⟨S4x768x4, .i32⟩
  | .hbm, ⟨50, _⟩ => ⟨S4x768x4, .i1⟩
  | .hbm, ⟨51, _⟩ => ⟨S_, .i32⟩
  | .hbm, ⟨52, _⟩ => ⟨S4x768x4, .i32⟩
  | .hbm, ⟨53, _⟩ => ⟨S4x768x4, .i32⟩
  | .hbm, ⟨54, _⟩ => ⟨S4x768x4, .i32⟩
  | .hbm, ⟨55, _⟩ => ⟨S4x768x4, .i32⟩
  | .hbm, ⟨56, _⟩ => ⟨S4x768x4, .i32⟩
  | .hbm, ⟨57, _⟩ => ⟨S4x768x4x1, .i32⟩
  | .hbm, ⟨58, _⟩ => ⟨S4x768x4x1, .i32⟩
  | .hbm, ⟨59, _⟩ => ⟨S4x768x4x1, .i32⟩
  | .hbm, ⟨60, _⟩ => ⟨S4x768x4x3, .i32⟩
  | .hbm, ⟨61, _⟩ => ⟨S_, .f32⟩
  | .hbm, ⟨62, _⟩ => ⟨S4x768x4, .f32⟩
  | .hbm, ⟨63, _⟩ => ⟨S4x768x4097, .f32⟩
  | .hbm, ⟨64, _⟩ => ⟨S4x4097x768, .f32⟩
  | .hbm, ⟨65, _⟩ => ⟨S4x4097x768, .f32⟩
  | .hbm, ⟨66, _⟩ => ⟨S4x4097x768, .f32⟩
  | .hbm, ⟨67, _⟩ => ⟨S_, .i32⟩
  | .hbm, ⟨68, _⟩ => ⟨S4097x8192, .i32⟩
  | .hbm, ⟨69, _⟩ => ⟨S4097x8192, .i1⟩
  | .hbm, ⟨70, _⟩ => ⟨S_, .i32⟩
  | .hbm, ⟨71, _⟩ => ⟨S4097x8192, .i32⟩
  | .hbm, ⟨72, _⟩ => ⟨S4097x8192, .i1⟩
  | .hbm, ⟨73, _⟩ => ⟨S4097x8192, .i1⟩
  | .hbm, ⟨74, _⟩ => ⟨S_, .f32⟩
  | .hbm, ⟨75, _⟩ => ⟨S_, .f32⟩
  | .hbm, ⟨76, _⟩ => ⟨S4097x8192, .f32⟩
  | .hbm, ⟨77, _⟩ => ⟨S4097x8192, .f32⟩
  | .hbm, ⟨78, _⟩ => ⟨S4097x8192, .f32⟩
  | .hbm, ⟨79, _⟩ => ⟨S4097x8192, .f32⟩
  | .hbm, ⟨80, _⟩ => ⟨S4x768x8192, .f32⟩
  | .hbm, ⟨81, _⟩ => ⟨S4x8192x768, .f32⟩
  | .hbm, ⟨82, _⟩ => ⟨S4097x8192, .f32⟩
  | .hbm, ⟨83, _⟩ => ⟨S4x768x8192, .f32⟩
  | .hbm, ⟨84, _⟩ => ⟨S4x8192x768, .f32⟩
  | .hbm, ⟨85, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_values : Ref sig .tc := ⟨.hbm, 26, rfl⟩
abbrev main_indices : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_c_2 : Ref sig .tc := ⟨.hbm, 34, rfl⟩
abbrev main_v27 : Ref sig .tc := ⟨.hbm, 35, rfl⟩
abbrev main_v28 : Ref sig .tc := ⟨.hbm, 36, rfl⟩
abbrev main_c_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_4 : Ref sig .tc := ⟨.hbm, 41, rfl⟩
abbrev main_v32 : Ref sig .tc := ⟨.hbm, 42, rfl⟩
abbrev main_v33 : Ref sig .tc := ⟨.hbm, 43, rfl⟩
abbrev main_c_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_6 : Ref sig .tc := ⟨.hbm, 48, rfl⟩
abbrev main_v37 : Ref sig .tc := ⟨.hbm, 49, rfl⟩
abbrev main_v38 : Ref sig .tc := ⟨.hbm, 50, rfl⟩
abbrev main_c_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c_9 : Ref sig .tc := ⟨.hbm, 67, rfl⟩
abbrev main_v53 : Ref sig .tc := ⟨.hbm, 68, rfl⟩
abbrev main_v54 : Ref sig .tc := ⟨.hbm, 69, rfl⟩
abbrev main_c_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_11 : Ref sig .tc := ⟨.hbm, 74, rfl⟩
abbrev main_cst_12 : Ref sig .tc := ⟨.hbm, 75, rfl⟩
abbrev main_call0_v0 : Ref sig .tc := ⟨.hbm, 76, rfl⟩
abbrev main_call0_v1 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== Proof.Select.lean ====
module

public import proofs.«01_k».proof.Proof.Gen.KernelIdeal.Value
public import Idealize.ShloMosaic.Lib.Pointwise
public import Idealize.ShloMosaic.Lib.Pipeline.Value

/-!
# One selection round of the kernel, read at a lane

The kernel keeps the spectrum in two arrays: array `A` of 33 rows and 65 groups of 128 lanes, array `B` of 32 rows
and 64 groups of 128 lanes. A round takes, for each lane, the greatest amplitude over all rows and groups of both
arrays, the least frequency number among the slots that hold it, and marks the slots of that frequency. The lemmas here
read these steps at a lane, whatever the arrays hold.
-/

@[expose] public section

set_option maxRecDepth 16384

noncomputable section

namespace Cert.Round

open Idealize.ShloMosaic Idealize.SL.Sem Cert.KernelIdeal Cert.KernelIdeal.Gen

/-- Lane `l` of group `g` among the 65 groups of array `A`. -/
def colA (g : Fin 65) (l : Fin 128) : Fin 8320 := ⟨g.val * 128 + l.val, by omega⟩

/-- Lane `l` of group `g` among the 64 groups of array `B`. -/
def colB (g : Fin 64) (l : Fin 128) : Fin 8192 := ⟨g.val * 128 + l.val, by omega⟩

theorem concat_okA {α : Type} (v : S1x128.Idx → α) :
    Shape.Concatenates ((List.replicate 65 (⟨S1x128, v⟩ : (s : Shape) × (s.Idx → α))).map (·.1)) S1x8320 1 := by
  rw [List.map_replicate]
  refine ⟨by rw [List.length_replicate]; decide, fun s hs => ?_, ?_⟩
  · obtain rfl := List.eq_of_mem_replicate hs
    exact ⟨rfl, fun b hb => by
      have hb0 : b = (0 : Fin 2) := by
        have : b.val ≠ 1 := fun q => hb (Fin.ext q)
        have h2 : b.val < 2 := b.isLt
        exact Fin.ext (show b.val = 0 by omega)
      subst hb0
      rfl⟩
  · rw [List.map_replicate, List.sum_replicate]; rfl

theorem concat_okB {α : Type} (v : S1x128.Idx → α) :
    Shape.Concatenates ((List.replicate 64 (⟨S1x128, v⟩ : (s : Shape) × (s.Idx → α))).map (·.1)) S1x8192 1 := by
  rw [List.map_replicate]
  refine ⟨by rw [List.length_replicate]; decide, fun s hs => ?_, ?_⟩
  · obtain rfl := List.eq_of_mem_replicate hs
    exact ⟨rfl, fun b hb => by
      have hb0 : b = (0 : Fin 2) := by
        have : b.val ≠ 1 := fun q => hb (Fin.ext q)
        have h2 : b.val < 2 := b.isLt
        exact Fin.ext (show b.val = 0 by omega)
      subst hb0
      rfl⟩
  · rw [List.map_replicate, List.sum_replicate]; rfl

/-- A row of 128 lanes repeated over the 65 groups of array `A`. -/
def tileA {α : Type} (v : S1x128.Idx → α) : S1x8320.Idx → α :=
  concatenate S1x8320 1 (List.replicate 65 (⟨S1x128, v⟩ : (s : Shape) × (s.Idx → α)))
    (concat_okA v)

/-- A row of 128 lanes repeated over the 64 groups of array `B`. -/
def tileB {α : Type} (v : S1x128.Idx → α) : S1x8192.Idx → α :=
  concatenate S1x8192 1 (List.replicate 64 (⟨S1x128, v⟩ : (s : Shape) × (s.Idx → α)))
    (concat_okB v)

theorem tileA_apply {α : Type} (v : S1x128.Idx → α) (j : Fin 8320) :
    tileA v (ix2 0 j) = v (ix2 0 ⟨j.val % 128, Nat.mod_lt _ (by decide)⟩) := by
  unfold tileA
  refine concatenate_replicate_apply (t := S1x8320) (s₁ := S1x128) 1 65 v _ rfl _ _ ?_ ?_
  · rfl
  · intro b hb
    have hb0 : b = (0 : Fin 2) := by
      have : b.val ≠ 1 := fun q => hb (Fin.ext q)
      have h2 : b.val < 2 := b.isLt
      exact Fin.ext (show b.val = 0 by omega)
    subst hb0
    rfl

theorem tileB_apply {α : Type} (v : S1x128.Idx → α) (j : Fin 8192) :
    tileB v (ix2 0 j) = v (ix2 0 ⟨j.val % 128, Nat.mod_lt _ (by decide)⟩) := by
  unfold tileB
  refine concatenate_replicate_apply (t := S1x8192) (s₁ := S1x128) 1 64 v _ rfl _ _ ?_ ?_
  · rfl
  · intro b hb
    have hb0 : b = (0 : Fin 2) := by
      have : b.val ≠ 1 := fun q => hb (Fin.ext q)
      have h2 : b.val < 2 := b.isLt
      exact Fin.ext (show b.val = 0 by omega)
    subst hb0
    rfl

/-! ## Maxima and minima over two axes -/

/-- A maximum taken first down the rows and then over the groups is `M` or less exactly when every entry is. -/
theorem fold_max2_le {n g : ℕ} (b M : EReal) (f : Fin g → Fin n → EReal) :
    Finset.fold max b (fun x => Finset.fold max b (fun y => f x y) Finset.univ) Finset.univ ≤ M
      ↔ b ≤ M ∧ ∀ x y, f x y ≤ M := by
  rw [Finset.fold_max_le]
  constructor
  · rintro ⟨h, h'⟩
    exact ⟨h, fun x y => (Finset.fold_max_le M |>.1 (h' x (Finset.mem_univ x))).2 y (Finset.mem_univ y)⟩
  · rintro ⟨h, h'⟩
    exact ⟨h, fun x _ => Finset.fold_max_le M |>.2 ⟨h, fun y _ => h' x y⟩⟩

/-- An entry is at most the maximum over both axes. -/
theorem le_fold_max2 {n g : ℕ} (b : EReal) (f : Fin g → Fin n → EReal) (x : Fin g) (y : Fin n) :
    f x y ≤ Finset.fold max b (fun x => Finset.fold max b (fun y => f x y) Finset.univ) Finset.univ :=
  ((fold_max2_le b _ f).1 le_rfl).2 x y

/-- The signed minimum of words, read as integers, is the minimum of the integers. -/
theorem minsi_toInt (a b : BitVec 32) : (IntOp.minsi a b).toInt = min a.toInt b.toInt := by
  unfold IntOp.minsi
  by_cases h : a.slt b = true
  · have := BitVec.slt_iff_toInt_lt.1 h
    simp [h]; omega
  · have : ¬ a.toInt < b.toInt := fun q => h (BitVec.slt_iff_toInt_lt.2 q)
    simp [h]; omega

/-- A fold of signed minima, read as integers. -/
theorem fold_minsi_toInt {n : ℕ} (b : BitVec 32) (f : Fin n → BitVec 32) (s : Finset (Fin n)) :
    (Finset.fold IntOp.minsi b f s).toInt = Finset.fold min b.toInt (fun i => (f i).toInt) s := by
  classical
  induction s using Finset.induction_on with
  | empty => simp
  | insert a s ha ih => rw [Finset.fold_insert ha, Finset.fold_insert ha, minsi_toInt, ih]

/-- A signed minimum taken down the rows and then over the groups is `m` or more exactly when every entry is. -/
theorem le_fold_min2 {n g : ℕ} (b : BitVec 32) (m : ℤ) (f : Fin g → Fin n → BitVec 32) :
    m ≤ (Finset.fold IntOp.minsi b (fun x => Finset.fold IntOp.minsi b (fun y => f x y) Finset.univ) Finset.univ).toInt
      ↔ m ≤ b.toInt ∧ ∀ x y, m ≤ (f x y).toInt := by
  rw [fold_minsi_toInt, Finset.le_fold_min]
  constructor
  · rintro ⟨h, h'⟩
    refine ⟨h, fun x y => ?_⟩
    have := h' x (Finset.mem_univ x)
    rw [fold_minsi_toInt, Finset.le_fold_min] at this
    exact this.2 y (Finset.mem_univ y)
  · rintro ⟨h, h'⟩
    refine ⟨h, fun x _ => ?_⟩
    rw [fold_minsi_toInt, Finset.le_fold_min]
    exact ⟨h, fun y _ => h' x y⟩

/-! ## The round's maximum -/

theorem ofBits_bot : Ideal.ofBits .f32 0xFF800000#32 = (⊥ : EReal) := by
  simp [Ideal.ofBits, Ideal.ieee]

/-- If `M` bounds every slot of lane `l` and is held by one of them, the round's maximum at lane `l` is `M`. -/
theorem max_eq (wa : FVec Ideal S33x8320 .f32) (wb : FVec Ideal S32x8192 .f32) (l : Fin 128) (M : EReal)
    (ha : ∀ r g, wa (ix2 r (colA g l)) ≤ M) (hb : ∀ r g, wb (ix2 r (colB g l)) ≤ M)
    (h : (∃ r g, wa (ix2 r (colA g l)) = M) ∨ ∃ r g, wb (ix2 r (colB g l)) = M) :
    k0_pay54 wa wb (ix2 0 l) = M := by
  have e : k0_pay54 wa wb (ix2 0 l)
      = max (Finset.fold max (Ideal.ofBits .f32 0xFF800000#32)
          (fun g => Finset.fold max (Ideal.ofBits .f32 0xFF800000#32) (fun r => wa (ix2 r (colA g l))) Finset.univ) Finset.univ)
        (Finset.fold max (Ideal.ofBits .f32 0xFF800000#32)
          (fun g => Finset.fold max (Ideal.ofBits .f32 0xFF800000#32) (fun r => wb (ix2 r (colB g l))) Finset.univ) Finset.univ) := by
    pointwise [k0_pay54]
    rfl
  rw [e, ofBits_bot]
  apply le_antisymm
  · refine max_le ((fold_max2_le _ _ _).2 ⟨bot_le, fun x y => ha y x⟩) ((fold_max2_le _ _ _).2 ⟨bot_le, fun x y => hb y x⟩)
  · rcases h with ⟨r, g, h⟩ | ⟨r, g, h⟩
    · rw [← h]; exact le_max_of_le_left (le_fold_max2 ⊥ (fun g r => wa (ix2 r (colA g l))) g r)
    · rw [← h]; exact le_max_of_le_right (le_fold_max2 ⊥ (fun g r => wb (ix2 r (colB g l))) g r)

/-! ## The round's frequency -/

/-- The frequency numbers a round chooses from, in array `B`: a slot's number where it holds the maximum, else `2^30`. -/
theorem candB_apply (kb : IVec S32x8192 32) (wa : FVec Ideal S33x8320 .f32) (wb : FVec Ideal S32x8192 .f32) (r : Fin 32) (j : Fin 8192) :
    k0_pay55 kb wa wb (ix2 r j)
      = if wb (ix2 r j) = k0_pay54 wa wb (ix2 0 ⟨j.val % 128, Nat.mod_lt _ (by decide)⟩) then kb (ix2 r j) else 1073741824#32 := by
  have e : k0_pay55 kb wa wb = select (cmpf .oeq wb (broadcastTo S32x8192 (tileB (k0_pay54 wa wb)) broadcasts_S1x8192_S32x8192)) kb
      (broadcast S32x8192 1073741824#32) := rfl
  rw [e]
  pointwise
  rw [tileB_apply]

/-- The same in array `A`, the minimum down the rows already taken. -/
theorem candA_apply (ka : IVec S33x8320 32) (wa : FVec Ideal S33x8320 .f32) (wb : FVec Ideal S32x8192 .f32) (j : Fin 8320) :
    k0_pay56 ka wa wb (ix1 j)
      = Finset.fold IntOp.minsi 2147483647#32 (fun r : Fin 33 =>
          if wa (ix2 r j) = k0_pay54 wa wb (ix2 0 ⟨j.val % 128, Nat.mod_lt _ (by decide)⟩) then ka (ix2 r j) else 1073741824#32)
          Finset.univ := by
  have e : k0_pay56 ka wa wb = multiReductionI .minsi [0] S8320
      (select (cmpf .oeq wa (broadcastTo S33x8320 (tileA (k0_pay54 wa wb)) broadcasts_S1x8320_S33x8320)) ka
      (broadcast S33x8320 1073741824#32)) 2147483647#32 reduces_S33x8320_S8320 rfl := rfl
  rw [e]
  pointwise
  simp only [tileA_apply]

theorem colA_mod (g : Fin 65) (l : Fin 128) : (⟨(colA g l).val % 128, Nat.mod_lt _ (by decide)⟩ : Fin 128) = l := by
  apply Fin.ext; simp only [colA]; omega

theorem colB_mod (g : Fin 64) (l : Fin 128) : (⟨(colB g l).val % 128, Nat.mod_lt _ (by decide)⟩ : Fin 128) = l := by
  apply Fin.ext; simp only [colB]; omega

/-- The frequency number a round takes at each lane. -/
def freq (ka : IVec S33x8320 32) (kb : IVec S32x8192 32) (wa : FVec Ideal S33x8320 .f32) (wb : FVec Ideal S32x8192 .f32) :
    IVec S1x128 32 := k0_pay57 (k0_pay55 kb wa wb) (k0_pay56 ka wa wb)

/-- If `M` is the round's maximum at lane `l`, and `m` is the least number of a slot that holds it, the round takes `m`. -/
theorem freq_eq (ka : IVec S33x8320 32) (kb : IVec S32x8192 32) (wa : FVec Ideal S33x8320 .f32) (wb : FVec Ideal S32x8192 .f32)
    (l : Fin 128) (M : EReal) (m : BitVec 32) (hM : k0_pay54 wa wb (ix2 0 l) = M) (hm : m.toInt ≤ 1073741824)
    (ha : ∀ r g, wa (ix2 r (colA g l)) = M → m.toInt ≤ (ka (ix2 r (colA g l))).toInt)
    (hb : ∀ r g, wb (ix2 r (colB g l)) = M → m.toInt ≤ (kb (ix2 r (colB g l))).toInt)
    (h : (∃ r g, wa (ix2 r (colA g l)) = M ∧ ka (ix2 r (colA g l)) = m)
      ∨ ∃ r g, wb (ix2 r (colB g l)) = M ∧ kb (ix2 r (colB g l)) = m) :
    freq ka kb wa wb (ix2 0 l) = m := by
  have e : freq ka kb wa wb (ix2 0 l)
      = IntOp.minsi
          (Finset.fold IntOp.minsi 2147483647#32 (fun g => Finset.fold IntOp.minsi 2147483647#32
            (fun r => if wa (ix2 r (colA g l)) = M then ka (ix2 r (colA g l)) else 1073741824#32) Finset.univ) Finset.univ)
          (Finset.fold IntOp.minsi 2147483647#32 (fun g => Finset.fold IntOp.minsi 2147483647#32
            (fun r => if wb (ix2 r (colB g l)) = M then kb (ix2 r (colB g l)) else 1073741824#32) Finset.univ) Finset.univ) := by
    have e1 : freq ka kb wa wb (ix2 0 l)
      = IntOp.minsi
          (Finset.fold IntOp.minsi 2147483647#32 (fun g => k0_pay56 ka wa wb (ix1 (colA g l))) Finset.univ)
          (Finset.fold IntOp.minsi 2147483647#32 (fun g => Finset.fold IntOp.minsi 2147483647#32
            (fun r => k0_pay55 kb wa wb (ix2 r (colB g l))) Finset.univ) Finset.univ) := by
      pointwise [freq, k0_pay57]
      rfl
    rw [e1]
    simp only [candA_apply, candB_apply, colA_mod, colB_mod, hM]
  have hbig : (1073741824#32 : BitVec 32).toInt = 1073741824 := by decide
  have htop : (2147483647#32 : BitVec 32).toInt = 2147483647 := by decide
  rw [e]
  apply BitVec.eq_of_toInt_eq
  rw [minsi_toInt]
  apply le_antisymm
  · rcases h with ⟨r, g, h1, h2⟩ | ⟨r, g, h1, h2⟩
    · refine min_le_of_left_le ?_
      have := ((le_fold_min2 2147483647#32 _
        (fun g r => if wa (ix2 r (colA g l)) = M then ka (ix2 r (colA g l)) else 1073741824#32)).1 le_rfl).2 g r
      rw [if_pos h1, h2] at this
      exact this
    · refine min_le_of_right_le ?_
      have := ((le_fold_min2 2147483647#32 _
        (fun g r => if wb (ix2 r (colB g l)) = M then kb (ix2 r (colB g l)) else 1073741824#32)).1 le_rfl).2 g r
      rw [if_pos h1, h2] at this
      exact this
  · refine le_min ((le_fold_min2 _ _ _).2 ⟨by omega, fun g r => ?_⟩) ((le_fold_min2 _ _ _).2 ⟨by omega, fun g r => ?_⟩)
    · split
      · next q => exact ha r g q
      · omega
    · split
      · next q => exact hb r g q
      · omega

/-! ## The slots of the frequency taken -/

/-- The slots of array `A` whose number is the frequency taken. -/
theorem hitA_apply (ka : IVec S33x8320 32) (kb : IVec S32x8192 32) (wa : FVec Ideal S33x8320 .f32) (wb : FVec Ideal S32x8192 .f32)
    (r : Fin 33) (g : Fin 65) (l : Fin 128) :
    k0_pay58 ka (k0_pay55 kb wa wb) (k0_pay56 ka wa wb) (ix2 r (colA g l))
      = IntOp.cmpi .eq (ka (ix2 r (colA g l))) (freq ka kb wa wb (ix2 0 l)) := by
  have e : k0_pay58 ka (k0_pay55 kb wa wb) (k0_pay56 ka wa wb)
    = cmpi .eq ka (broadcastTo S33x8320 (tileA (freq ka kb wa wb)) broadcasts_S1x8320_S33x8320) := rfl
  rw [e]
  pointwise
  rw [tileA_apply, colA_mod]

/-- The slots of array `B` whose number is the frequency taken. -/
theorem hitB_apply (ka : IVec S33x8320 32) (kb : IVec S32x8192 32) (wa : FVec Ideal S33x8320 .f32) (wb : FVec Ideal S32x8192 .f32)
    (r : Fin 32) (g : Fin 64) (l : Fin 128) :
    k0_pay59 kb (k0_pay55 kb wa wb) (k0_pay56 ka wa wb) (ix2 r (colB g l))
      = IntOp.cmpi .eq (kb (ix2 r (colB g l))) (freq ka kb wa wb (ix2 0 l)) := by
  have e : k0_pay59 kb (k0_pay55 kb wa wb) (k0_pay56 ka wa wb)
    = cmpi .eq kb (broadcastTo S32x8192 (tileB (freq ka kb wa wb)) broadcasts_S1x8192_S32x8192) := rfl
  rw [e]
  pointwise
  rw [tileB_apply, colB_mod]

/-- A one-bit selection by an equality of words. -/
theorem select_cmpi_eq {α : Type} (a b : BitVec 32) (x y : α) :
    Scalar.select (IntOp.cmpi .eq a b) x y = if a = b then x else y := by
  by_cases h : a = b
  · subst h; simp [Scalar.select, IntOp.cmpi]
  · have hb : (a == b) = false := by simpa using h
    simp [Scalar.select, IntOp.cmpi, h, hb]

/-! ## The numbers of the slots -/

/-- The numbers of array `A`'s slots. -/
abbrev numA : IVec S33x8320 32 := k0_pay21

/-- The numbers of array `B`'s slots. -/
abbrev numB : IVec S32x8192 32 := k0_pay26 k0_pay24 k0_pay25 1073741824#32

/-- A lane's group: its position shifted right by seven. -/
theorem group_shift (n : ℕ) (g : ℕ) (l : Fin 128) (hn : n = g * 128 + l.val) (hg : g < 128) :
    IntOp.shrui .vector (BitVec.ofNat 32 n) 7#32 = BitVec.ofNat 32 g := by
  have hl := l.isLt
  unfold IntOp.shrui
  rw [if_pos (by decide)]
  apply BitVec.eq_of_toNat_eq
  rw [BitVec.ushiftRight_eq', BitVec.toNat_ushiftRight, BitVec.toNat_ofNat, BitVec.toNat_ofNat, BitVec.toNat_ofNat,
    Nat.shiftRight_eq_div_pow, hn, Nat.mod_eq_of_lt (a := 7) (by decide), Nat.mod_eq_of_lt (by omega), Nat.mod_eq_of_lt (by omega)]
  omega

theorem numA_apply (r : Fin 33) (g : Fin 65) (l : Fin 128) :
    numA (ix2 r (colA g l)) = BitVec.ofNat 32 (128 * r.val + g.val) := by
  have e : numA (ix2 r (colA g l))
      = IntOp.addi (IntOp.muli (BitVec.ofNat 32 r.val) 128#32) (IntOp.shrui .vector (BitVec.ofNat 32 (colA g l).val) 7#32) := by
    pointwise [k0_pay21]
  rw [e, group_shift (colA g l).val g.val l rfl (by omega)]
  apply BitVec.eq_of_toNat_eq
  simp only [IntOp.addi, IntOp.muli, BitVec.toNat_add, BitVec.toNat_mul, BitVec.toNat_ofNat]
  omega

theorem numB_apply (r : Fin 32) (g : Fin 64) (l : Fin 128) :
    numB (ix2 r (colB g l)) = if g.val = 0 then 1073741824#32 else BitVec.ofNat 32 (128 * (r.val + 1) - g.val) := by
  have e : numB (ix2 r (colB g l))
      = Scalar.select (IntOp.cmpi CmpIPredicate.eq (IntOp.shrui ArithUnit.vector (BitVec.ofNat 32 (colB g l).val) 7#32) 0#32)
        (1073741824#32)
        (IntOp.subi (IntOp.muli (IntOp.addi (BitVec.ofNat 32 r.val) 1#32) 128#32)
          (IntOp.shrui ArithUnit.vector (BitVec.ofNat 32 (colB g l).val) 7#32)) := by
    pointwise [k0_pay26, k0_pay24, k0_pay25, k0_pay23]
  rw [e, group_shift (colB g l).val g.val l rfl (by omega), select_cmpi_eq]
  have hiff : BitVec.ofNat 32 g.val = 0#32 ↔ g.val = 0 := by
    constructor
    · intro h
      have := congrArg BitVec.toNat h
      simp only [BitVec.toNat_ofNat] at this
      omega
    · intro h; rw [h]
  by_cases hg : g.val = 0
  · rw [if_pos (hiff.2 hg), if_pos hg]
  · rw [if_neg (fun h => hg (hiff.1 h)), if_neg hg]
    apply BitVec.eq_of_toNat_eq
    simp only [IntOp.subi, IntOp.addi, IntOp.muli, BitVec.toNat_sub, BitVec.toNat_add, BitVec.toNat_mul, BitVec.toNat_ofNat]
    omega

theorem ofNat_inj {a b : ℕ} (ha : a < 2 ^ 31) (hb : b < 2 ^ 31) : BitVec.ofNat 32 a = BitVec.ofNat 32 b ↔ a = b := by
  constructor
  · intro h
    have := congrArg BitVec.toNat h
    simp only [BitVec.toNat_ofNat] at this
    omega
  · intro h; rw [h]

theorem toInt_ofNat {a : ℕ} (ha : a < 2 ^ 31) : (BitVec.ofNat 32 a).toInt = (a : ℤ) := by
  rw [BitVec.toInt_eq_toNat_of_lt (by rw [BitVec.toNat_ofNat]; omega), BitVec.toNat_ofNat, Nat.mod_eq_of_lt (by omega)]

/-- A slot of array `B` has the number `f` exactly when it is not in group zero and its frequency is `f`. -/
theorem numB_eq_iff (r : Fin 32) (g : Fin 64) (l : Fin 128) (f : ℕ) (hf : f ≤ 4096) :
    numB (ix2 r (colB g l)) = BitVec.ofNat 32 f ↔ g.val ≠ 0 ∧ 128 * (r.val + 1) - g.val = f := by
  rw [numB_apply]
  have h30 : (1073741824#32 : BitVec 32) = BitVec.ofNat 32 1073741824 := rfl
  split
  · next h => rw [h30, ofNat_inj (by norm_num) (by omega)]; omega
  · next h => rw [ofNat_inj (by omega) (by omega)]; exact ⟨fun q => ⟨h, q⟩, fun q => q.2⟩

theorem numA_eq_iff (r : Fin 33) (g : Fin 65) (l : Fin 128) (f : ℕ) (hf : f ≤ 4096) :
    numA (ix2 r (colA g l)) = BitVec.ofNat 32 f ↔ 128 * r.val + g.val = f := by
  rw [numA_apply, ofNat_inj (by omega) (by omega)]

end Cert.Round
-- ==== Proof.Round.lean ====
module

public import proofs.«01_k».proof.Proof.Select

/-!
# What the arrays hold between rounds

Lane `l` of the two amplitude arrays holds, at the slot of frequency `f`, the amplitude `a f` while `f` has not been
taken and `-2` after. The slots that stand for no frequency hold `-1`. A round takes the frequency that beats every other
one left, and leaves the arrays in the same form with that frequency added to those taken.
-/

@[expose] public section

set_option maxRecDepth 16384

noncomputable section

namespace Cert.Round

open Idealize.ShloMosaic Idealize.SL.Sem Cert.KernelIdeal Cert.KernelIdeal.Gen

/-- What the slot of frequency `f` holds, `S` being the frequencies already taken. -/
def slot (a : ℕ → ℝ) (S : Finset ℕ) (f : ℕ) : EReal :=
  if f ∈ S then ((-2 : ℝ) : EReal) else ((a f : ℝ) : EReal)

/-- Lane `l` of both arrays, the frequencies of `S` taken. -/
structure Holds (a : ℕ → ℝ) (S : Finset ℕ) (l : Fin 128) (wa : FVec Ideal S33x8320 .f32) (wb : FVec Ideal S32x8192 .f32) : Prop where
  inA : ∀ r g, wa (ix2 r (colA g l)) = if 128 * r.val + g.val ≤ 4096 then slot a S (128 * r.val + g.val) else ((-1 : ℝ) : EReal)
  inB : ∀ r g, wb (ix2 r (colB g l)) = if g.val = 0 then ((-1 : ℝ) : EReal) else slot a S (128 * (r.val + 1) - g.val)

/-- `f` is taken next: it is left, and it beats every other frequency left, the lower of two equal amplitudes first. -/
structure Next (a : ℕ → ℝ) (S : Finset ℕ) (f : ℕ) : Prop where
  le : f ≤ 4096
  new : f ∉ S
  best : ∀ f' ≤ 4096, f' ∉ S → a f' ≤ a f ∧ (a f' = a f → f ≤ f')

/-- Every frequency up to 4096 has a slot: in array `A` when its remainder by 128 is at most 64, else in array `B`. -/
theorem slot_of (f : ℕ) (hf : f ≤ 4096) :
    (∃ (r : Fin 33) (g : Fin 65), 128 * r.val + g.val = f) ∨ ∃ (r : Fin 32) (g : Fin 64), g.val ≠ 0 ∧ 128 * (r.val + 1) - g.val = f := by
  by_cases h : f % 128 ≤ 64
  · exact .inl ⟨⟨f / 128, by omega⟩, ⟨f % 128, by omega⟩, by simp only; omega⟩
  · exact .inr ⟨⟨f / 128, by omega⟩, ⟨128 - f % 128, by omega⟩, by simp only; omega, by simp only; omega⟩

/-- The round takes the frequency that comes next. -/
theorem freq_next (a : ℕ → ℝ) (ha : ∀ f, 0 ≤ a f) (S : Finset ℕ) (l : Fin 128) (wa : FVec Ideal S33x8320 .f32)
    (wb : FVec Ideal S32x8192 .f32) (h : Holds a S l wa wb) (f : ℕ) (hf : Next a S f) :
    freq numA numB wa wb (ix2 0 l) = BitVec.ofNat 32 f := by
  have h0 := ha f
  have hslot : ∀ f' ≤ 4096, slot a S f' ≤ ((a f : ℝ) : EReal) := by
    intro f' hf'
    unfold slot
    split
    · exact EReal.coe_le_coe_iff.2 (by linarith)
    · next q => exact EReal.coe_le_coe_iff.2 (hf.best f' hf' q).1
  have hself : slot a S f = ((a f : ℝ) : EReal) := if_neg hf.new
  have hmin : ∀ f' ≤ 4096, slot a S f' = ((a f : ℝ) : EReal) → f ≤ f' := by
    intro f' hf' e
    unfold slot at e
    split at e
    · have := EReal.coe_eq_coe_iff.1 e; linarith
    · next q => exact (hf.best f' hf' q).2 (EReal.coe_eq_coe_iff.1 e)
  have hneg : ((-1 : ℝ) : EReal) ≤ ((a f : ℝ) : EReal) := EReal.coe_le_coe_iff.2 (by linarith)
  have hneg' : ((-1 : ℝ) : EReal) ≠ ((a f : ℝ) : EReal) := fun e => by have := EReal.coe_eq_coe_iff.1 e; linarith
  have hfle := hf.le
  have hM : k0_pay54 wa wb (ix2 0 l) = ((a f : ℝ) : EReal) := by
    refine max_eq wa wb l _ (fun r g => ?_) (fun r g => ?_) ?_
    · rw [h.inA]; split
      · next q => exact hslot _ q
      · exact hneg
    · rw [h.inB]; split
      · exact hneg
      · exact hslot _ (by omega)
    · rcases slot_of f hf.le with ⟨r, g, e⟩ | ⟨r, g, e0, e⟩
      · exact .inl ⟨r, g, by rw [h.inA, e, if_pos hf.le, hself]⟩
      · exact .inr ⟨r, g, by rw [h.inB, e, if_neg e0, hself]⟩
  have hft : (BitVec.ofNat 32 f).toInt = (f : ℤ) := toInt_ofNat (by omega)
  refine freq_eq numA numB wa wb l _ _ hM (by omega) (fun r g e => ?_) (fun r g e => ?_) ?_
  · rw [h.inA] at e
    split at e
    · next q => rw [numA_apply, hft, toInt_ofNat (by omega)]; exact_mod_cast hmin _ q e
    · exact absurd e hneg'
  · rw [h.inB] at e
    split at e
    · exact absurd e hneg'
    · next q =>
      rw [numB_apply, if_neg q, hft, toInt_ofNat (by omega)]; exact_mod_cast hmin _ (by omega) e
  · rcases slot_of f hf.le with ⟨r, g, e⟩ | ⟨r, g, e0, e⟩
    · exact .inl ⟨r, g, by rw [h.inA, e, if_pos hf.le, hself], by rw [numA_apply, e]⟩
    · exact .inr ⟨r, g, by rw [h.inB, e, if_neg e0, hself], by rw [numB_apply, if_neg e0, e]⟩

/-- Array `A` after a round. -/
def markA (wa : FVec Ideal S33x8320 .f32) (wb : FVec Ideal S32x8192 .f32) : FVec Ideal S33x8320 .f32 :=
  k0_pay63 wa (k0_pay58 numA (k0_pay55 numB wa wb) (k0_pay56 numA wa wb))

/-- Array `B` after a round. -/
def markB (wa : FVec Ideal S33x8320 .f32) (wb : FVec Ideal S32x8192 .f32) : FVec Ideal S32x8192 .f32 :=
  k0_pay64 wb (k0_pay59 numB (k0_pay55 numB wa wb) (k0_pay56 numA wa wb))

theorem ofBits_neg_two : Ideal.ofBits .f32 0xC0000000#32 = ((-2 : ℝ) : EReal) := by
  simp [Ideal.ofBits, Ideal.ieee, -EReal.coe_mul, -EReal.coe_neg]; norm_num

theorem ofBits_neg_one : Ideal.ofBits .f32 0xBF800000#32 = ((-1 : ℝ) : EReal) := by
  simp [Ideal.ofBits, Ideal.ieee, -EReal.coe_mul, -EReal.coe_neg]; norm_num

/-- A round leaves the arrays in the same form, its frequency added to those taken. -/
theorem holds_mark (a : ℕ → ℝ) (ha : ∀ f, 0 ≤ a f) (S : Finset ℕ) (l : Fin 128) (wa : FVec Ideal S33x8320 .f32)
    (wb : FVec Ideal S32x8192 .f32) (h : Holds a S l wa wb) (f : ℕ) (hf : Next a S f) :
    Holds a (insert f S) l (markA wa wb) (markB wa wb) := by
  have hq := freq_next a ha S l wa wb h f hf
  have hle := hf.le
  constructor
  · intro r g
    have e : markA wa wb (ix2 r (colA g l))
        = Scalar.select (k0_pay58 numA (k0_pay55 numB wa wb) (k0_pay56 numA wa wb) (ix2 r (colA g l)))
            (Ideal.ofBits .f32 0xC0000000#32) (wa (ix2 r (colA g l))) := by
      pointwise [markA, k0_pay63]
    rw [e, hitA_apply, hq, select_cmpi_eq, ofBits_neg_two, h.inA]
    simp only [numA_eq_iff r g l f hle]
    by_cases hs : 128 * r.val + g.val = f
    · rw [if_pos hs, hs, if_pos hle, slot, if_pos (Finset.mem_insert_self _ _)]
    · rw [if_neg hs]
      simp only [slot, Finset.mem_insert, hs, false_or]
  · intro r g
    have e : markB wa wb (ix2 r (colB g l))
        = Scalar.select (k0_pay59 numB (k0_pay55 numB wa wb) (k0_pay56 numA wa wb) (ix2 r (colB g l)))
            (Ideal.ofBits .f32 0xC0000000#32) (wb (ix2 r (colB g l))) := by
      pointwise [markB, k0_pay64]
    rw [e, hitB_apply, hq, select_cmpi_eq, ofBits_neg_two, h.inB]
    simp only [numB_eq_iff r g l f hle]
    by_cases hg : g.val = 0
    · simp only [hg, ne_eq, not_true_eq_false, false_and, if_false, if_true]
    · by_cases hs : 128 * (r.val + 1) - g.val = f
      · rw [if_pos ⟨hg, hs⟩, hs, if_neg hg, slot, if_pos (Finset.mem_insert_self _ _)]
      · rw [if_neg (fun q => hs q.2)]
        simp only [slot, Finset.mem_insert, hs, false_or]

/-! ## The coefficient read out -/

/-- The sum over the slots of the frequency taken, of a function on frequencies that the arrays spell. -/
theorem pick (X : ℕ → EReal) (f : ℕ) (hf : f ≤ 4096) :
    (∑ g : Fin 65, ∑ r : Fin 33, if 128 * r.val + g.val = f then X (128 * r.val + g.val) else 0)
      + (∑ g : Fin 64, ∑ r : Fin 32, if g.val ≠ 0 ∧ 128 * (r.val + 1) - g.val = f then X (128 * (r.val + 1) - g.val) else 0) = X f := by
  by_cases h : f % 128 ≤ 64
  · rw [Finset.sum_eq_single (⟨f % 128, by omega⟩ : Fin 65), Finset.sum_eq_single (⟨f / 128, by omega⟩ : Fin 33),
      Finset.sum_eq_zero (s := (Finset.univ : Finset (Fin 64)))]
    · rw [if_pos (by simp only; omega), add_zero]; congr 1; simp only; omega
    · intro g _
      refine Finset.sum_eq_zero fun r _ => if_neg ?_
      rintro ⟨h1, h2⟩; omega
    · intro r _ hr
      refine if_neg fun q => hr (Fin.ext ?_)
      simp only at q ⊢; omega
    · intro q; exact absurd (Finset.mem_univ _) q
    · intro g _ hg
      refine Finset.sum_eq_zero fun r _ => if_neg fun q => hg (Fin.ext ?_)
      simp only; omega
    · intro q; exact absurd (Finset.mem_univ _) q
  · rw [Finset.sum_eq_zero (s := (Finset.univ : Finset (Fin 65))), zero_add,
      Finset.sum_eq_single (⟨128 - f % 128, by omega⟩ : Fin 64), Finset.sum_eq_single (⟨f / 128, by omega⟩ : Fin 32)]
    · rw [if_pos (by simp only; omega)]; congr 1; simp only; omega
    · intro r _ hr
      refine if_neg fun q => hr (Fin.ext ?_)
      simp only at q ⊢; omega
    · intro q; exact absurd (Finset.mem_univ _) q
    · intro g _ hg
      refine Finset.sum_eq_zero fun r _ => if_neg fun q => hg (Fin.ext ?_)
      simp only; omega
    · intro q; exact absurd (Finset.mem_univ _) q
    · intro g _
      refine Finset.sum_eq_zero fun r _ => if_neg fun q => ?_
      omega

/-- The real parts' sum of a round, at a lane whose frequency is `f`: the coefficient at `f`. -/
theorem pick_re (va : FVec Ideal S33x8320 .f32) (vb : FVec Ideal S32x8192 .f32) (wa : FVec Ideal S33x8320 .f32)
    (wb : FVec Ideal S32x8192 .f32) (l : Fin 128) (X : ℕ → EReal)
    (hA : ∀ r g, va (ix2 r (colA g l)) = X (128 * r.val + g.val)) (hB : ∀ r g, vb (ix2 r (colB g l)) = X (128 * (r.val + 1) - g.val))
    (f : ℕ) (hf : f ≤ 4096) (hq : freq numA numB wa wb (ix2 0 l) = BitVec.ofNat 32 f) :
    k0_pay60 va vb numA numB (k0_pay55 numB wa wb) (k0_pay56 numA wa wb) (ix2 0 l) = X f := by
  have e : k0_pay60 va vb numA numB (k0_pay55 numB wa wb) (k0_pay56 numA wa wb) (ix2 0 l)
      = (∑ g : Fin 65, ∑ r : Fin 33, Scalar.select (k0_pay58 numA (k0_pay55 numB wa wb) (k0_pay56 numA wa wb) (ix2 r (colA g l)))
          (va (ix2 r (colA g l))) 0)
        + ∑ g : Fin 64, ∑ r : Fin 32, Scalar.select (k0_pay59 numB (k0_pay55 numB wa wb) (k0_pay56 numA wa wb) (ix2 r (colB g l)))
          (vb (ix2 r (colB g l))) 0 := by
    pointwise [k0_pay60]
    rfl
  rw [e]
  simp only [hitA_apply, hitB_apply, hq, select_cmpi_eq, numA_eq_iff _ _ l f hf, numB_eq_iff _ _ l f hf, hA, hB]
  exact pick X f hf

/-- The imaginary parts' sum of a round is made of the same sums over the two arrays. -/
theorem pick_im (va : FVec Ideal S33x8320 .f32) (vb : FVec Ideal S32x8192 .f32) (wa : FVec Ideal S33x8320 .f32)
    (wb : FVec Ideal S32x8192 .f32) (l : Fin 128) (X : ℕ → EReal)
    (hA : ∀ r g, va (ix2 r (colA g l)) = X (128 * r.val + g.val)) (hB : ∀ r g, vb (ix2 r (colB g l)) = X (128 * (r.val + 1) - g.val))
    (f : ℕ) (hf : f ≤ 4096) (hq : freq numA numB wa wb (ix2 0 l) = BitVec.ofNat 32 f) :
    k0_pay61 va numA (k0_pay55 numB wa wb) (k0_pay56 numA wa wb) (ix2 0 l)
      + k0_pay62 vb numB (k0_pay55 numB wa wb) (k0_pay56 numA wa wb) (ix2 0 l) = X f := by
  rw [← pick_re va vb wa wb l X hA hB f hf hq]
  pointwise [k0_pay60, k0_pay61, k0_pay62]

/-! ## The inverse transform's weight and term -/

/-- The weight of frequency `f` in the inverse transform. -/
def weight (f : ℕ) : ℝ := if f = 0 ∨ f = 4096 then 1 / 8192 else 2 / 8192

theorem ofBits_inv_n : Ideal.ofBits .f32 0x39000000#32 = ((1 / 8192 : ℝ) : EReal) := by
  simp [Ideal.ofBits, Ideal.ieee, -EReal.coe_mul, -EReal.coe_neg]; norm_num

theorem ofBits_two_inv_n : Ideal.ofBits .f32 0x39800000#32 = ((2 / 8192 : ℝ) : EReal) := by
  simp [Ideal.ofBits, Ideal.ieee, -EReal.coe_mul, -EReal.coe_neg]; norm_num

theorem scale_apply (v : IVec S1x128 32) (l : Fin 128) (f : ℕ) (hf : f ≤ 4096) (hv : v (ix2 0 l) = BitVec.ofNat 32 f) :
    k0_pay65 (F := Ideal) v (ix2 0 l) = ((weight f : ℝ) : EReal) := by
  have e : k0_pay65 (F := Ideal) v (ix2 0 l)
      = Scalar.select (IntOp.ori (IntOp.cmpi .eq (v (ix2 0 l)) 0#32) (IntOp.cmpi .eq (v (ix2 0 l)) 4096#32))
        (Ideal.ofBits .f32 0x39000000#32) (Ideal.ofBits .f32 0x39800000#32) := by
    pointwise [k0_pay65]
  have h0 : v (ix2 0 l) = 0#32 ↔ f = 0 := by rw [hv]; exact ofNat_inj (b := 0) (by omega) (by omega)
  have h1 : v (ix2 0 l) = 4096#32 ↔ f = 4096 := by rw [hv]; exact ofNat_inj (b := 4096) (by omega) (by omega)
  rw [e, ofBits_inv_n, ofBits_two_inv_n, weight]
  by_cases q0 : f = 0
  · have := h0.2 q0
    simp [IntOp.cmpi, IntOp.ori, Scalar.select, this, q0]
  · by_cases q1 : f = 4096
    · have := h1.2 q1
      simp [IntOp.cmpi, IntOp.ori, Scalar.select, this, q1]
    · have e0 : (v (ix2 0 l) == 0#32) = false := by simpa using fun q => q0 (h0.1 q)
      have e1 : (v (ix2 0 l) == 4096#32) = false := by simpa using fun q => q1 (h1.1 q)
      simp [IntOp.cmpi, IntOp.ori, Scalar.select, e0, e1, q0, q1]

end Cert.Round
-- ==== Proof.Term.lean ====
module

public import proofs.«01_k».proof.Proof.Round

/-!
# One frequency's term of the inverse transform

The kernel writes the time `t` as `64 b + a`, reduces `f a` modulo 8192 and `f b` modulo 128 in integers, and joins the two
rotations by the angle addition formulas. Over the reals that is the term of frequency `f` at time `t`.
-/

@[expose] public section

set_option maxRecDepth 16384

noncomputable section

namespace Cert.Round

open Idealize.ShloMosaic Idealize.SL.Sem Cert.KernelIdeal Cert.KernelIdeal.Gen

/-- The angle of frequency `f` at time `t`: `2 π f t / 8192`. -/
def angle (f t : ℕ) : ℝ := Real.pi / 4096 * ((f : ℝ) * (t : ℝ))

/-- Frequency `f`'s term of the inverse transform at time `t`, its coefficient being `re + i im`. -/
def term (f t : ℕ) (re im : ℝ) : ℝ := weight f * (re * Real.cos (angle f t) - im * Real.sin (angle f t))

/-- A product of small words masked by `2^k - 1` is the remainder of the product. -/
theorem mask_mul (a f k : ℕ) (hk : k ≤ 13) (h : a * f < 2 ^ 31) (ha : a < 2 ^ 31) (hf : f < 2 ^ 31) :
    IntOp.andi (IntOp.muli (BitVec.ofNat 32 a) (BitVec.ofNat 32 f)) (BitVec.ofNat 32 (2 ^ k - 1))
      = BitVec.ofNat 32 (a * f % 2 ^ k) := by
  have hk' : 2 ^ k ≤ 2 ^ 13 := Nat.pow_le_pow_right (by norm_num) hk
  have hm := Nat.mod_lt (a * f) (Nat.two_pow_pos k)
  have hk2 : 2 ^ k - 1 < 2 ^ 32 := by omega
  have hm2 : a * f % 2 ^ k < 2 ^ 32 := by omega
  have h2 : a * f < 2 ^ 32 := by omega
  apply BitVec.eq_of_toNat_eq
  simp only [IntOp.andi, IntOp.muli, BitVec.toNat_and, BitVec.toNat_mul, BitVec.toNat_ofNat]
  rw [Nat.mod_eq_of_lt (a := a) (by omega), Nat.mod_eq_of_lt (a := f) (by omega), Nat.mod_eq_of_lt h2,
    Nat.mod_eq_of_lt hk2, Nat.and_two_pow_sub_one_eq_mod, Nat.mod_eq_of_lt hm2]

/-- An angle reduced modulo the full turn has the same cosine. -/
theorem cos_mod (n m : ℕ) (hm : 0 < m) (q : ℝ) (hq : (m : ℝ) * q = 2 * Real.pi) :
    Real.cos (((n % m : ℕ) : ℝ) * q) = Real.cos ((n : ℝ) * q) := by
  have e : (n : ℝ) * q = ((n % m : ℕ) : ℝ) * q + ((n / m : ℕ) : ℝ) * (2 * Real.pi) := by
    have h : (n : ℝ) = ((n % m : ℕ) : ℝ) + (m : ℝ) * ((n / m : ℕ) : ℝ) := by exact_mod_cast (Nat.mod_add_div n m).symm
    rw [← hq]
    nth_rewrite 1 [h]; ring
  rw [e, Real.cos_add_nat_mul_two_pi]

/-- An angle reduced modulo the full turn has the same sine. -/
theorem sin_mod (n m : ℕ) (hm : 0 < m) (q : ℝ) (hq : (m : ℝ) * q = 2 * Real.pi) :
    Real.sin (((n % m : ℕ) : ℝ) * q) = Real.sin ((n : ℝ) * q) := by
  have e : (n : ℝ) * q = ((n % m : ℕ) : ℝ) * q + ((n / m : ℕ) : ℝ) * (2 * Real.pi) := by
    have h : (n : ℝ) = ((n % m : ℕ) : ℝ) + (m : ℝ) * ((n / m : ℕ) : ℝ) := by exact_mod_cast (Nat.mod_add_div n m).symm
    rw [← hq]
    nth_rewrite 1 [h]; ring
  rw [e, Real.sin_add_nat_mul_two_pi]

/-- The rows of a 64 by 128 array. -/
abbrev rowsA : IVec S64x128 32 := iota .tc S64x128 32 [0] iota_S64x128_d0_w32

/-- The rows of a 128 by 128 array. -/
abbrev rowsB : IVec S128x128 32 := iota .tc S128x128 32 [0] iota_S128x128_d0_w32

theorem named_turn_n : Named.named (F := Ideal) κ "turn_n" (φ := .f32) 0x3A490FDB#32 = (((1 / 4096) * Real.pi : ℝ) : EReal) := rfl

theorem named_turn_n2 : Named.named (F := Ideal) κ "turn_n2" (φ := .f32) 0x3D490FDB#32 = (((1 / 64) * Real.pi : ℝ) : EReal) := rfl

/-- The kernel's term of one round at a lane whose frequency is `f`: the inverse transform's term of `f`. -/
theorem term_apply (v : IVec S1x128 32) (cr ci : FVec Ideal S1x128 .f32) (b : Fin 128) (a : Fin 64) (l : Fin 128) (f : ℕ) (hf : f ≤ 4096)
    (hv : v (ix2 0 l) = BitVec.ofNat 32 f) (re im : ℝ) (hr : cr (ix2 0 l) = ((re * weight f : ℝ) : EReal))
    (hi : ci (ix2 0 l) = ((im * weight f : ℝ) : EReal)) :
    k0_pay37 rowsA rowsB v cr ci (ix3 b a l) = ((term f (64 * b.val + a.val) re im : ℝ) : EReal) := by
  have e : k0_pay37 rowsA rowsB v cr ci (ix3 b a l)
      = Ideal.cos ((((IntOp.andi (IntOp.muli (BitVec.ofNat 32 b.val) (v (ix2 0 l))) 127#32).toInt : ℝ) : EReal)
            * Named.named (F := Ideal) κ "turn_n2" (φ := .f32) 0x3D490FDB#32)
          * (cr (ix2 0 l) * Ideal.cos ((((IntOp.andi (IntOp.muli (BitVec.ofNat 32 a.val) (v (ix2 0 l))) 8191#32).toInt : ℝ) : EReal)
              * Named.named (F := Ideal) κ "turn_n" (φ := .f32) 0x3A490FDB#32)
            - ci (ix2 0 l) * Ideal.sin ((((IntOp.andi (IntOp.muli (BitVec.ofNat 32 a.val) (v (ix2 0 l))) 8191#32).toInt : ℝ) : EReal)
              * Named.named (F := Ideal) κ "turn_n" (φ := .f32) 0x3A490FDB#32))
        + Ideal.sin ((((IntOp.andi (IntOp.muli (BitVec.ofNat 32 b.val) (v (ix2 0 l))) 127#32).toInt : ℝ) : EReal)
            * Named.named (F := Ideal) κ "turn_n2" (φ := .f32) 0x3D490FDB#32)
          * (0 - (cr (ix2 0 l) * Ideal.sin ((((IntOp.andi (IntOp.muli (BitVec.ofNat 32 a.val) (v (ix2 0 l))) 8191#32).toInt : ℝ) : EReal)
              * Named.named (F := Ideal) κ "turn_n" (φ := .f32) 0x3A490FDB#32)
            + ci (ix2 0 l) * Ideal.cos ((((IntOp.andi (IntOp.muli (BitVec.ofNat 32 a.val) (v (ix2 0 l))) 8191#32).toInt : ℝ) : EReal)
              * Named.named (F := Ideal) κ "turn_n" (φ := .f32) 0x3A490FDB#32))) := by
    pointwise [k0_pay37]
    rfl
  have ha := a.isLt
  have hb := b.isLt
  have hfa : a.val * f < 2 ^ 31 := lt_of_le_of_lt (Nat.mul_le_mul (show a.val ≤ 64 by omega) hf) (by norm_num)
  have hfb : b.val * f < 2 ^ 31 := lt_of_le_of_lt (Nat.mul_le_mul (show b.val ≤ 128 by omega) hf) (by norm_num)
  have m1 : IntOp.andi (IntOp.muli (BitVec.ofNat 32 a.val) (BitVec.ofNat 32 f)) 8191#32 = BitVec.ofNat 32 (a.val * f % 8192) :=
    mask_mul a.val f 13 (by omega) hfa (by omega) (by omega)
  have m2 : IntOp.andi (IntOp.muli (BitVec.ofNat 32 b.val) (BitVec.ofNat 32 f)) 127#32 = BitVec.ofNat 32 (b.val * f % 128) :=
    mask_mul b.val f 7 (by omega) hfb (by omega) (by omega)
  rw [e, hv, m1, m2, toInt_ofNat (by omega), toInt_ofNat (by omega), named_turn_n, named_turn_n2, hr, hi]
  have c1 : Real.cos (((a.val * f % 8192 : ℕ) : ℝ) * (1 / 4096 * Real.pi)) = Real.cos (((a.val * f : ℕ) : ℝ) * (1 / 4096 * Real.pi)) :=
    cos_mod _ _ (by norm_num) _ (by push_cast; ring)
  have s1 : Real.sin (((a.val * f % 8192 : ℕ) : ℝ) * (1 / 4096 * Real.pi)) = Real.sin (((a.val * f : ℕ) : ℝ) * (1 / 4096 * Real.pi)) :=
    sin_mod _ _ (by norm_num) _ (by push_cast; ring)
  have c2 : Real.cos (((b.val * f % 128 : ℕ) : ℝ) * (1 / 64 * Real.pi)) = Real.cos (((b.val * f : ℕ) : ℝ) * (1 / 64 * Real.pi)) :=
    cos_mod _ _ (by norm_num) _ (by push_cast; ring)
  have s2 : Real.sin (((b.val * f % 128 : ℕ) : ℝ) * (1 / 64 * Real.pi)) = Real.sin (((b.val * f : ℕ) : ℝ) * (1 / 64 * Real.pi)) :=
    sin_mod _ _ (by norm_num) _ (by push_cast; ring)
  have hang : angle f (64 * b.val + a.val)
      = ((a.val * f : ℕ) : ℝ) * (1 / 4096 * Real.pi) + ((b.val * f : ℕ) : ℝ) * (1 / 64 * Real.pi) := by
    unfold angle; push_cast; ring
  simp only [Int.cast_natCast, ← EReal.coe_mul, Ideal.cos_coe, Ideal.sin_coe, ← EReal.coe_sub, ← EReal.coe_add, ← EReal.coe_zero]
  rw [EReal.coe_eq_coe_iff, c1, s1, c2, s2, term, hang, Real.cos_add, Real.sin_add]
  ring

end Cert.Round
-- ==== Proof.Dft.lean ====
module

public import proofs.«01_k».proof.Proof.Term

/-!
# The discrete Fourier transform of a column, and its two-stage form

`Re x f` and `Im x f` are the real and imaginary parts of the coefficient of `x` at frequency `f`, for 8192 samples. The
kernel writes the time as `64 n2 + n1` and the frequency as `128 kh + kl`: it sums over `n2` with the angles
`-2π kl n2 / 128`, turns the result by `-2π kl n1 / 8192`, and sums over `n1` with the angles `-2π kh n1 / 64`.
-/

@[expose] public section

noncomputable section

namespace Cert.Round

/-- The real part of the coefficient of `x` at frequency `f`. -/
def Re (x : ℕ → ℝ) (f : ℕ) : ℝ := ∑ t : Fin 8192, x t.val * Real.cos (angle f t.val)

/-- The imaginary part of the coefficient of `x` at frequency `f`. -/
def Im (x : ℕ → ℝ) (f : ℕ) : ℝ := -∑ t : Fin 8192, x t.val * Real.sin (angle f t.val)

/-- The first stage's angle. -/
def ang1 (k n : ℕ) : ℝ := -(Real.pi / 64 * ((k : ℝ) * (n : ℝ)))

/-- The angle of the turn between the stages. -/
def ang2 (k n : ℕ) : ℝ := -(Real.pi / 4096 * ((k : ℝ) * (n : ℝ)))

/-- The second stage's angle. -/
def ang3 (k n : ℕ) : ℝ := -(Real.pi / 32 * ((k : ℝ) * (n : ℝ)))

/-- The first stage's real part. -/
def G (x : ℕ → ℝ) (k n : ℕ) : ℝ := ∑ m : Fin 128, Real.cos (ang1 k m.val) * x (64 * m.val + n)

/-- The first stage's imaginary part. -/
def GI (x : ℕ → ℝ) (k n : ℕ) : ℝ := ∑ m : Fin 128, Real.sin (ang1 k m.val) * x (64 * m.val + n)

/-- The turned first stage's real part. -/
def H (x : ℕ → ℝ) (k n : ℕ) : ℝ := G x k n * Real.cos (ang2 k n) - GI x k n * Real.sin (ang2 k n)

/-- The turned first stage's imaginary part. -/
def HI (x : ℕ → ℝ) (k n : ℕ) : ℝ := G x k n * Real.sin (ang2 k n) + GI x k n * Real.cos (ang2 k n)

theorem H_eq (x : ℕ → ℝ) (k n : ℕ) :
    H x k n = ∑ m : Fin 128, x (64 * m.val + n) * Real.cos (ang1 k m.val + ang2 k n) := by
  unfold H G GI
  rw [Finset.sum_mul, Finset.sum_mul, ← Finset.sum_sub_distrib]
  refine Finset.sum_congr rfl fun m _ => ?_
  rw [Real.cos_add]; ring

theorem HI_eq (x : ℕ → ℝ) (k n : ℕ) :
    HI x k n = ∑ m : Fin 128, x (64 * m.val + n) * Real.sin (ang1 k m.val + ang2 k n) := by
  unfold HI G GI
  rw [Finset.sum_mul, Finset.sum_mul, ← Finset.sum_add_distrib]
  refine Finset.sum_congr rfl fun m _ => ?_
  rw [Real.sin_add]; ring

/-- A sum over the 8192 times, taken as 64 by 128. -/
theorem sum_time (y : ℕ → ℝ) : ∑ t : Fin 8192, y t.val = ∑ n : Fin 64, ∑ m : Fin 128, y (64 * m.val + n.val) := by
  rw [Finset.sum_comm, ← Finset.sum_product']
  refine (Fintype.sum_equiv (finProdFinEquiv (m := 128) (n := 64)) (fun p => y (64 * p.1.val + p.2.val)) (fun t : Fin (128 * 64) => y t.val) ?_).symm
  intro p
  congr 1
  simp only [finProdFinEquiv_apply_val]
  ring

/-- The three stages' angles add up to minus the transform's angle, up to whole turns: frequency `128 p + k`. -/
theorem angle_add (p k m n : ℕ) :
    ang3 p n + (ang1 k m + ang2 k n) = -angle (128 * p + k) (64 * m + n) + ((p * m : ℕ) : ℝ) * (2 * Real.pi) := by
  unfold ang1 ang2 ang3 angle; push_cast; ring

/-- The mirrored one: frequency `128 p - k`. -/
theorem angle_sub (p k m n : ℕ) (h : k ≤ 128 * p) :
    ang3 p n - (ang1 k m + ang2 k n) = -angle (128 * p - k) (64 * m + n) + ((p * m : ℕ) : ℝ) * (2 * Real.pi) := by
  unfold ang1 ang2 ang3 angle; push_cast [Nat.cast_sub h]; ring

theorem Re_add (x : ℕ → ℝ) (p k : ℕ) :
    ∑ n : Fin 64, (Real.cos (ang3 p n.val) * H x k n.val - Real.sin (ang3 p n.val) * HI x k n.val) = Re x (128 * p + k) := by
  unfold Re
  rw [sum_time (fun t => x t * Real.cos (angle (128 * p + k) t))]
  refine Finset.sum_congr rfl fun n _ => ?_
  rw [H_eq, HI_eq, Finset.mul_sum, Finset.mul_sum, ← Finset.sum_sub_distrib]
  refine Finset.sum_congr rfl fun m _ => ?_
  have e := congrArg Real.cos (angle_add p k m.val n.val)
  rw [Real.cos_add_nat_mul_two_pi, Real.cos_neg, Real.cos_add] at e
  rw [← e]; ring

theorem Im_add (x : ℕ → ℝ) (p k : ℕ) :
    ∑ n : Fin 64, (Real.sin (ang3 p n.val) * H x k n.val + Real.cos (ang3 p n.val) * HI x k n.val) = Im x (128 * p + k) := by
  unfold Im
  rw [sum_time (fun t => x t * Real.sin (angle (128 * p + k) t)), ← Finset.sum_neg_distrib]
  refine Finset.sum_congr rfl fun n _ => ?_
  rw [H_eq, HI_eq, Finset.mul_sum, Finset.mul_sum, ← Finset.sum_add_distrib, ← Finset.sum_neg_distrib]
  refine Finset.sum_congr rfl fun m _ => ?_
  have e := congrArg Real.sin (angle_add p k m.val n.val)
  rw [Real.sin_add_nat_mul_two_pi, Real.sin_neg, Real.sin_add] at e
  rw [show -(x (64 * m.val + n.val) * Real.sin (angle (128 * p + k) (64 * m.val + n.val)))
    = x (64 * m.val + n.val) * -Real.sin (angle (128 * p + k) (64 * m.val + n.val)) by ring, ← e]; ring

theorem Re_sub (x : ℕ → ℝ) (p k : ℕ) (h : k ≤ 128 * p) :
    ∑ n : Fin 64, (Real.cos (ang3 p n.val) * H x k n.val + Real.sin (ang3 p n.val) * HI x k n.val) = Re x (128 * p - k) := by
  unfold Re
  rw [sum_time (fun t => x t * Real.cos (angle (128 * p - k) t))]
  refine Finset.sum_congr rfl fun n _ => ?_
  rw [H_eq, HI_eq, Finset.mul_sum, Finset.mul_sum, ← Finset.sum_add_distrib]
  refine Finset.sum_congr rfl fun m _ => ?_
  have e := congrArg Real.cos (angle_sub p k m.val n.val h)
  rw [Real.cos_add_nat_mul_two_pi, Real.cos_neg, Real.cos_sub] at e
  rw [← e]; ring

theorem Im_sub (x : ℕ → ℝ) (p k : ℕ) (h : k ≤ 128 * p) :
    ∑ n : Fin 64, (Real.sin (ang3 p n.val) * H x k n.val - Real.cos (ang3 p n.val) * HI x k n.val) = Im x (128 * p - k) := by
  unfold Im
  rw [sum_time (fun t => x t * Real.sin (angle (128 * p - k) t)), ← Finset.sum_neg_distrib]
  refine Finset.sum_congr rfl fun n _ => ?_
  rw [H_eq, HI_eq, Finset.mul_sum, Finset.mul_sum, ← Finset.sum_sub_distrib, ← Finset.sum_neg_distrib]
  refine Finset.sum_congr rfl fun m _ => ?_
  have e := congrArg Real.sin (angle_sub p k m.val n.val h)
  rw [Real.sin_add_nat_mul_two_pi, Real.sin_neg, Real.sin_sub] at e
  rw [show -(x (64 * m.val + n.val) * Real.sin (angle (128 * p - k) (64 * m.val + n.val)))
    = x (64 * m.val + n.val) * -Real.sin (angle (128 * p - k) (64 * m.val + n.val)) by ring, ← e]; ring

end Cert.Round
-- ==== Proof.Spectrum.lean ====
module

public import proofs.«01_k».proof.Proof.Dft

/-!
# The kernel's spectrum arrays

From the nine blocks a grid point reads, the kernel forms four arrays of coefficients. With lane `l` of the data block
holding the real column `x`, and the eight tables holding the cosines and sines of the three stages' angles, the arrays
hold at lane `l` the real and imaginary parts of the transform of `x`: array `A` in row `r`, group `g` at the frequency
`128 r + g`, array `B` at `128 (r + 1) - g`.
-/

@[expose] public section

set_option maxRecDepth 16384

noncomputable section

namespace Cert.Round

open Idealize.ShloMosaic Idealize.SL.Sem Cert.KernelIdeal Cert.KernelIdeal.Gen

/-- The amplitude of frequency `f`: the squared modulus of its coefficient. -/
def amp (x : ℕ → ℝ) (f : ℕ) : ℝ := Re x f * Re x f + Im x f * Im x f

/-- A finite sum of reals, as extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The eight tables, as reals. -/
structure Tables (x1 x2 : Vec Ideal S72x128 .f32) (x3 x4 x5 x6 : Vec Ideal S72x64 .f32) (x7 : Vec Ideal S33x64 .f32)
    (x8 : Vec Ideal S32x64 .f32) : Prop where
  d1r : ∀ (k : Fin 65) (m : Fin 128), x1 (ix2 ⟨k.val, by omega⟩ m) = ((Real.cos (ang1 k.val m.val) : ℝ) : EReal)
  d1i : ∀ (k : Fin 65) (m : Fin 128), x2 (ix2 ⟨k.val, by omega⟩ m) = ((Real.sin (ang1 k.val m.val) : ℝ) : EReal)
  tr : ∀ (k : Fin 65) (n : Fin 64), x3 (ix2 ⟨k.val, by omega⟩ n) = ((Real.cos (ang2 k.val n.val) : ℝ) : EReal)
  ti : ∀ (k : Fin 65) (n : Fin 64), x4 (ix2 ⟨k.val, by omega⟩ n) = ((Real.sin (ang2 k.val n.val) : ℝ) : EReal)
  e1a : ∀ (r : Fin 33) (n : Fin 64), x5 (ix2 ⟨r.val, by omega⟩ n) = ((Real.cos (ang3 r.val n.val) : ℝ) : EReal)
  e1b : ∀ (r : Fin 32) (n : Fin 64), x5 (ix2 ⟨40 + r.val, by omega⟩ n) = ((Real.cos (ang3 (r.val + 1) n.val) : ℝ) : EReal)
  e2a : ∀ (r : Fin 33) (n : Fin 64), x6 (ix2 ⟨r.val, by omega⟩ n) = ((Real.sin (ang3 r.val n.val) : ℝ) : EReal)
  e2b : ∀ (r : Fin 32) (n : Fin 64), x6 (ix2 ⟨40 + r.val, by omega⟩ n) = ((Real.sin (ang3 (r.val + 1) n.val) : ℝ) : EReal)
  eas : ∀ (r : Fin 33) (n : Fin 64),
    x7 (ix2 r n) = ((Real.cos (ang3 r.val n.val) + Real.sin (ang3 r.val n.val) : ℝ) : EReal)
  ebs : ∀ (r : Fin 32) (n : Fin 64),
    x8 (ix2 r n) = ((Real.cos (ang3 (r.val + 1) n.val) + Real.sin (ang3 (r.val + 1) n.val) : ℝ) : EReal)

variable (x0 : Vec Ideal S1x8192x128 .f32) (x1 x2 : Vec Ideal S72x128 .f32) (x3 x4 x5 x6 : Vec Ideal S72x64 .f32)
  (x7 : Vec Ideal S33x64 .f32) (x8 : Vec Ideal S32x64 .f32)

theorem colA_div (g : Fin 65) (l : Fin 128) : (colA g l).val / 128 = g.val := by
  have := l.isLt; simp only [colA]; omega

theorem colA_mod' (g : Fin 65) (l : Fin 128) : (colA g l).val % 128 = l.val := by
  have := l.isLt; simp only [colA]; omega

section stage
variable (hT : Tables x1 x2 x3 x4 x5 x6 x7 x8) (l : Fin 128) (x : ℕ → ℝ) (hx : ∀ t : Fin 8192, x0 (ix3 0 t l) = ((x t.val : ℝ) : EReal))
include hT hx

/-- The data block at the flat position the first product reads. -/
theorem data_read (n : Fin 64) (g : Fin 65) (m : Fin 128) (h1) (h2) :
    x0 (ix3 0 ⟨m.val * 64 + (n.val * 128 + (colA g l).val % 128) / 128, h1⟩ ⟨(n.val * 128 + (colA g l).val % 128) % 128, h2⟩)
      = ((x (64 * m.val + n.val) : ℝ) : EReal) := by
  have hl := l.isLt
  have e2 : (⟨(n.val * 128 + (colA g l).val % 128) % 128, h2⟩ : Fin 128) = l := by
    apply Fin.ext; simp only [colA_mod']; omega
  rw [e2, hx]
  congr 2
  simp only [colA_mod']; omega

/-- The turned first stage's imaginary part, at a slot's lane. -/
theorem hi_apply (n : Fin 64) (g : Fin 65) :
    k0_pay8 (View.ld x0 r0_0) (View.ld x1 r0_1) (View.ld x2 r0_1) (View.ld x3 r0_2) (View.ld x4 r0_2) (ix2 n (colA g l))
      = ((HI x g.val n.val : ℝ) : EReal) := by
  have e1 : (⟨(colA g l).val / 128, by have := (colA g l).isLt; omega⟩ : Fin 72) = ⟨g.val, by omega⟩ := Fin.ext (colA_div g l)
  pointwise [k0_pay8, k0_pay3, k0_pay4, k0_pay5, k0_pay6, k0_pay2, r0_0, r0_1, r0_2]
  simp only [e1, data_read x0 x1 x2 x3 x4 x5 x6 x7 x8 hT l x hx, hT.d1r, hT.d1i, hT.tr, hT.ti, ← EReal.coe_mul, coe_sum, ← EReal.coe_add]
  rfl

/-- The turned first stage's real part, at a slot's lane. -/
theorem hr_apply (n : Fin 64) (g : Fin 65) :
    k0_pay7 (View.ld x0 r0_0) (View.ld x1 r0_1) (View.ld x2 r0_1) (View.ld x3 r0_2) (View.ld x4 r0_2) (ix2 n (colA g l))
      = ((H x g.val n.val : ℝ) : EReal) := by
  have e1 : (⟨(colA g l).val / 128, by have := (colA g l).isLt; omega⟩ : Fin 72) = ⟨g.val, by omega⟩ := Fin.ext (colA_div g l)
  pointwise [k0_pay7, k0_pay3, k0_pay4, k0_pay5, k0_pay6, k0_pay2, r0_0, r0_1, r0_2]
  simp only [e1, data_read x0 x1 x2 x3 x4 x5 x6 x7 x8 hT l x hx, hT.d1r, hT.d1i, hT.tr, hT.ti, ← EReal.coe_mul, coe_sum, ← EReal.coe_sub]
  rfl

/-- The product of the real parts with the second stage's cosines. -/
theorem r1_apply (r : Fin 72) (g : Fin 65) (c : Fin 64 → ℝ) (hc : ∀ n, x5 (ix2 r n) = ((c n : ℝ) : EReal)) :
    k0_pay88 x0 x1 x2 x3 x4 x5 x6 x7 x8 (ix2 r (colA g l)) = ((∑ n : Fin 64, c n * H x g.val n.val : ℝ) : EReal) := by
  pointwise [k0_pay88, k0_pay11, r0_2]
  simp only [hr_apply x0 x1 x2 x3 x4 x5 x6 x7 x8 hT l x hx, hc, ← EReal.coe_mul, coe_sum]

/-- The product of the imaginary parts with the second stage's sines. -/
theorem r2_apply (r : Fin 72) (g : Fin 65) (c : Fin 64 → ℝ) (hc : ∀ n, x6 (ix2 r n) = ((c n : ℝ) : EReal)) :
    k0_pay12 (k0_pay86 x0 x1 x2 x3 x4 x5 x6 x7 x8) (View.ld x6 r0_2) (ix2 r (colA g l))
      = ((∑ n : Fin 64, c n * HI x g.val n.val : ℝ) : EReal) := by
  pointwise [k0_pay86, k0_pay12, r0_2]
  simp only [hi_apply x0 x1 x2 x3 x4 x5 x6 x7 x8 hT l x hx, hc, ← EReal.coe_mul, coe_sum]

/-- Array `A`'s real parts. -/
theorem ar_apply (r : Fin 33) (g : Fin 65) :
    k0_pay89 x0 x1 x2 x3 x4 x5 x6 x7 x8 (ix2 r (colA g l)) = ((Re x (128 * r.val + g.val) : ℝ) : EReal) := by
  pointwise [k0_pay89, k0_pay17, k0_pay13, k0_pay14]
  rw [r1_apply x0 x1 x2 x3 x4 x5 x6 x7 x8 hT l x hx _ g _ (hT.e1a r), r2_apply x0 x1 x2 x3 x4 x5 x6 x7 x8 hT l x hx _ g _ (hT.e2a r),
    ← EReal.coe_sub, ← Finset.sum_sub_distrib, Re_add]

/-- Array `A`'s imaginary parts. -/
theorem ai_apply (r : Fin 33) (g : Fin 65) :
    k0_pay90 x0 x1 x2 x3 x4 x5 x6 x7 x8 (ix2 r (colA g l)) = ((Im x (128 * r.val + g.val) : ℝ) : EReal) := by
  have e : k0_pay90 x0 x1 x2 x3 x4 x5 x6 x7 x8 (ix2 r (colA g l))
      = (∑ n : Fin 64, x7 (ix2 r n) * k0_pay9 (View.ld x0 r0_0) (View.ld x1 r0_1) (View.ld x2 r0_1) (View.ld x3 r0_2) (View.ld x4 r0_2) (ix2 n (colA g l)))
        - k0_pay88 x0 x1 x2 x3 x4 x5 x6 x7 x8 (ix2 ⟨r.val, by omega⟩ (colA g l))
        - k0_pay12 (k0_pay86 x0 x1 x2 x3 x4 x5 x6 x7 x8) (View.ld x6 r0_2) (ix2 ⟨r.val, by omega⟩ (colA g l)) := by
    pointwise [k0_pay90, k0_pay18, k0_pay13, k0_pay14, k0_pay87, r0_3]
  have e9 : ∀ n : Fin 64, k0_pay9 (View.ld x0 r0_0) (View.ld x1 r0_1) (View.ld x2 r0_1) (View.ld x3 r0_2) (View.ld x4 r0_2) (ix2 n (colA g l))
      = ((H x g.val n.val + HI x g.val n.val : ℝ) : EReal) := by
    intro n
    pointwise [k0_pay9]
    rw [hr_apply x0 x1 x2 x3 x4 x5 x6 x7 x8 hT l x hx, hi_apply x0 x1 x2 x3 x4 x5 x6 x7 x8 hT l x hx, EReal.coe_add]
  rw [e, r1_apply x0 x1 x2 x3 x4 x5 x6 x7 x8 hT l x hx _ g _ (hT.e1a r), r2_apply x0 x1 x2 x3 x4 x5 x6 x7 x8 hT l x hx _ g _ (hT.e2a r)]
  simp only [e9, hT.eas, ← EReal.coe_mul, coe_sum, ← EReal.coe_sub]
  rw [← Im_add, ← Finset.sum_sub_distrib, ← Finset.sum_sub_distrib]
  congr 1
  refine Finset.sum_congr rfl fun n _ => ?_
  ring

/-- Array `B`'s real parts. -/
theorem br_apply (r : Fin 32) (g : Fin 64) :
    k0_pay91 x0 x1 x2 x3 x4 x5 x6 x7 x8 (ix2 r (colB g l)) = ((Re x (128 * (r.val + 1) - g.val) : ℝ) : EReal) := by
  have e : k0_pay91 x0 x1 x2 x3 x4 x5 x6 x7 x8 (ix2 r (colB g l))
      = k0_pay88 x0 x1 x2 x3 x4 x5 x6 x7 x8 (ix2 ⟨40 + r.val, by omega⟩ (colA ⟨g.val, by omega⟩ l))
        + k0_pay12 (k0_pay86 x0 x1 x2 x3 x4 x5 x6 x7 x8) (View.ld x6 r0_2) (ix2 ⟨40 + r.val, by omega⟩ (colA ⟨g.val, by omega⟩ l)) := by
    pointwise [k0_pay91, k0_pay19, k0_pay15, k0_pay16]
    rfl
  rw [e, r1_apply x0 x1 x2 x3 x4 x5 x6 x7 x8 hT l x hx _ _ _ (hT.e1b r), r2_apply x0 x1 x2 x3 x4 x5 x6 x7 x8 hT l x hx _ _ _ (hT.e2b r),
    ← EReal.coe_add, ← Finset.sum_add_distrib, Re_sub _ _ _ (by simp only; omega)]

/-- Array `B`'s imaginary parts. -/
theorem bi_apply (r : Fin 32) (g : Fin 64) :
    k0_pay92 x0 x1 x2 x3 x4 x5 x6 x7 x8 (ix2 r (colB g l)) = ((Im x (128 * (r.val + 1) - g.val) : ℝ) : EReal) := by
  have e : k0_pay92 x0 x1 x2 x3 x4 x5 x6 x7 x8 (ix2 r (colB g l))
      = (∑ n : Fin 64, x8 (ix2 r n) * k0_pay10 (View.ld x0 r0_0) (View.ld x1 r0_1) (View.ld x2 r0_1) (View.ld x3 r0_2) (View.ld x4 r0_2) (ix2 n (colB g l)))
        - k0_pay88 x0 x1 x2 x3 x4 x5 x6 x7 x8 (ix2 ⟨40 + r.val, by omega⟩ (colA ⟨g.val, by omega⟩ l))
        + k0_pay12 (k0_pay86 x0 x1 x2 x3 x4 x5 x6 x7 x8) (View.ld x6 r0_2) (ix2 ⟨40 + r.val, by omega⟩ (colA ⟨g.val, by omega⟩ l)) := by
    pointwise [k0_pay92, k0_pay20, k0_pay15, k0_pay16, r0_4]
    rfl
  have e9 : ∀ n : Fin 64, k0_pay10 (View.ld x0 r0_0) (View.ld x1 r0_1) (View.ld x2 r0_1) (View.ld x3 r0_2) (View.ld x4 r0_2) (ix2 n (colB g l))
      = ((H x g.val n.val - HI x g.val n.val : ℝ) : EReal) := by
    intro n
    have e10 : k0_pay10 (View.ld x0 r0_0) (View.ld x1 r0_1) (View.ld x2 r0_1) (View.ld x3 r0_2) (View.ld x4 r0_2) (ix2 n (colB g l))
      = k0_pay7 (View.ld x0 r0_0) (View.ld x1 r0_1) (View.ld x2 r0_1) (View.ld x3 r0_2) (View.ld x4 r0_2) (ix2 n (colA ⟨g.val, by omega⟩ l))
        - k0_pay8 (View.ld x0 r0_0) (View.ld x1 r0_1) (View.ld x2 r0_1) (View.ld x3 r0_2) (View.ld x4 r0_2) (ix2 n (colA ⟨g.val, by omega⟩ l)) := by
      pointwise [k0_pay10]
      rfl
    rw [e10, hr_apply x0 x1 x2 x3 x4 x5 x6 x7 x8 hT l x hx, hi_apply x0 x1 x2 x3 x4 x5 x6 x7 x8 hT l x hx, EReal.coe_sub]
  rw [e, r1_apply x0 x1 x2 x3 x4 x5 x6 x7 x8 hT l x hx _ _ _ (hT.e1b r), r2_apply x0 x1 x2 x3 x4 x5 x6 x7 x8 hT l x hx _ _ _ (hT.e2b r)]
  simp only [e9, hT.ebs, ← EReal.coe_mul, coe_sum, ← EReal.coe_sub, ← EReal.coe_add]
  rw [← Im_sub _ _ _ (by omega), ← Finset.sum_sub_distrib, ← Finset.sum_add_distrib]
  congr 1
  refine Finset.sum_congr rfl fun n _ => ?_
  ring

/-- The amplitudes the kernel starts from: no frequency is taken. -/
theorem holds_start :
    Holds (amp x) ∅ l (k0_pay94 x0 x1 x2 x3 x4 x5 x6 x7 x8)
      (k0_pay27 (k0_pay91 x0 x1 x2 x3 x4 x5 x6 x7 x8) (k0_pay92 x0 x1 x2 x3 x4 x5 x6 x7 x8) k0_pay24) := by
  constructor
  · intro r g
    have e : k0_pay94 x0 x1 x2 x3 x4 x5 x6 x7 x8 (ix2 r (colA g l))
        = Scalar.select (IntOp.cmpi .sle (numA (ix2 r (colA g l))) 4096#32)
            (k0_pay89 x0 x1 x2 x3 x4 x5 x6 x7 x8 (ix2 r (colA g l)) * k0_pay89 x0 x1 x2 x3 x4 x5 x6 x7 x8 (ix2 r (colA g l))
              + k0_pay90 x0 x1 x2 x3 x4 x5 x6 x7 x8 (ix2 r (colA g l)) * k0_pay90 x0 x1 x2 x3 x4 x5 x6 x7 x8 (ix2 r (colA g l)))
            (Ideal.ofBits .f32 0xBF800000#32) := by
      pointwise [k0_pay94, k0_pay22]
      rfl
    have hle : IntOp.cmpi .sle (numA (ix2 r (colA g l))) 4096#32 = if 128 * r.val + g.val ≤ 4096 then 1#1 else 0#1 := by
      rw [numA_apply]
      have h1 : (BitVec.ofNat 32 (128 * r.val + g.val)).toInt = ((128 * r.val + g.val : ℕ) : ℤ) := toInt_ofNat (by omega)
      have h2 : (4096#32 : BitVec 32).toInt = 4096 := by decide
      have h3 : (BitVec.ofNat 32 (128 * r.val + g.val)).sle 4096#32 = decide (128 * r.val + g.val ≤ 4096) := by
        rw [BitVec.sle, h1, h2]
        congr 1
        exact propext ⟨fun q => by omega, fun q => by omega⟩
      unfold IntOp.cmpi
      simp only [h3]
      split <;> rename_i q <;> simp [q]
    rw [e, hle, ar_apply x0 x1 x2 x3 x4 x5 x6 x7 x8 hT l x hx, ai_apply x0 x1 x2 x3 x4 x5 x6 x7 x8 hT l x hx, ofBits_neg_one,
      ← EReal.coe_mul, ← EReal.coe_mul, ← EReal.coe_add]
    split
    · rw [slot, if_neg (Finset.notMem_empty _)]; rfl
    · rfl
  · intro r g
    have e : k0_pay27 (k0_pay91 x0 x1 x2 x3 x4 x5 x6 x7 x8) (k0_pay92 x0 x1 x2 x3 x4 x5 x6 x7 x8) k0_pay24 (ix2 r (colB g l))
        = Scalar.select (IntOp.cmpi .eq (IntOp.shrui .vector (BitVec.ofNat 32 (colB g l).val) 7#32) 0#32) (Ideal.ofBits .f32 0xBF800000#32)
            (k0_pay91 x0 x1 x2 x3 x4 x5 x6 x7 x8 (ix2 r (colB g l)) * k0_pay91 x0 x1 x2 x3 x4 x5 x6 x7 x8 (ix2 r (colB g l))
              + k0_pay92 x0 x1 x2 x3 x4 x5 x6 x7 x8 (ix2 r (colB g l)) * k0_pay92 x0 x1 x2 x3 x4 x5 x6 x7 x8 (ix2 r (colB g l))) := by
      pointwise [k0_pay27, k0_pay24, k0_pay23]
    have hz : BitVec.ofNat 32 g.val = 0#32 ↔ g.val = 0 := ofNat_inj (b := 0) (by omega) (by omega)
    rw [e, group_shift (colB g l).val g.val l rfl (by omega), select_cmpi_eq, br_apply x0 x1 x2 x3 x4 x5 x6 x7 x8 hT l x hx,
      bi_apply x0 x1 x2 x3 x4 x5 x6 x7 x8 hT l x hx, ofBits_neg_one, ← EReal.coe_mul, ← EReal.coe_mul, ← EReal.coe_add]
    simp only [hz, slot, if_neg (Finset.notMem_empty _)]
    rfl

end stage

end Cert.Round
-- ==== Proof.Block.lean ====
module

public import proofs.«01_k».proof.Proof.Spectrum

/-!
# What one grid point writes

A grid point's output block is the sum of four rounds' terms. At a lane whose data column is `x`, and whatever four
frequencies come one after another in the order of selection, the block holds at time `t` the sum of the four frequencies'
terms of the inverse transform.
-/

@[expose] public section

set_option maxRecDepth 16384

noncomputable section

namespace Cert.Round

open Idealize.ShloMosaic Idealize.SL.Sem Cert.KernelIdeal Cert.KernelIdeal.Gen

/-- One round's contribution to the output, from the four coefficient arrays and the two amplitude arrays. -/
def contrib (ar ai : FVec Ideal S33x8320 .f32) (br bi : FVec Ideal S32x8192 .f32) (wa : FVec Ideal S33x8320 .f32) (wb : FVec Ideal S32x8192 .f32) :
    FVec Ideal S128x64x128 .bf16 :=
  k0_pay37 rowsA rowsB (freq numA numB wa wb)
    (k0_pay66 (freq numA numB wa wb) (k0_pay60 ar br numA numB (k0_pay55 numB wa wb) (k0_pay56 numA wa wb)))
    (k0_pay67 (freq numA numB wa wb) (k0_pay61 ai numA (k0_pay55 numB wa wb) (k0_pay56 numA wa wb))
      (k0_pay62 bi numB (k0_pay55 numB wa wb) (k0_pay56 numA wa wb)))

/-- A round's contribution at a lane: the term of the frequency that comes next. -/
theorem contrib_apply (ar ai : FVec Ideal S33x8320 .f32) (br bi : FVec Ideal S32x8192 .f32) (wa : FVec Ideal S33x8320 .f32)
    (wb : FVec Ideal S32x8192 .f32) (l : Fin 128) (x : ℕ → ℝ)
    (har : ∀ r g, ar (ix2 r (colA g l)) = ((Re x (128 * r.val + g.val) : ℝ) : EReal))
    (hai : ∀ r g, ai (ix2 r (colA g l)) = ((Im x (128 * r.val + g.val) : ℝ) : EReal))
    (hbr : ∀ r g, br (ix2 r (colB g l)) = ((Re x (128 * (r.val + 1) - g.val) : ℝ) : EReal))
    (hbi : ∀ r g, bi (ix2 r (colB g l)) = ((Im x (128 * (r.val + 1) - g.val) : ℝ) : EReal))
    (S : Finset ℕ) (h : Holds (amp x) S l wa wb) (f : ℕ) (hf : Next (amp x) S f) (b : Fin 128) (a : Fin 64) :
    contrib ar ai br bi wa wb (ix3 b a l) = ((term f (64 * b.val + a.val) (Re x f) (Im x f) : ℝ) : EReal) := by
  have hq := freq_next (amp x) (fun f => add_nonneg (mul_self_nonneg _) (mul_self_nonneg _)) S l wa wb h f hf
  refine term_apply _ _ _ b a l f hf.le hq _ _ ?_ ?_
  · have e : ∀ w, k0_pay66 (F := Ideal) (freq numA numB wa wb) w (ix2 0 l) = w (ix2 0 l) * k0_pay65 (F := Ideal) (freq numA numB wa wb) (ix2 0 l) := by
      intro w; pointwise [k0_pay66]
    rw [e, scale_apply _ l f hf.le hq, pick_re ar br wa wb l (fun f => ((Re x f : ℝ) : EReal)) har hbr f hf.le hq, EReal.coe_mul]
  · have e : ∀ w w', k0_pay67 (F := Ideal) (freq numA numB wa wb) w w' (ix2 0 l)
        = (w (ix2 0 l) + w' (ix2 0 l)) * k0_pay65 (F := Ideal) (freq numA numB wa wb) (ix2 0 l) := by
      intro w w'; pointwise [k0_pay67]
    rw [e, scale_apply _ l f hf.le hq, pick_im ai bi wa wb l (fun f => ((Im x f : ℝ) : EReal)) hai hbi f hf.le hq, EReal.coe_mul]

/-- The places of the first array that the round marks. -/
def hitsA (wa : FVec Ideal S33x8320 .f32) (wb : FVec Ideal S32x8192 .f32) : IVec S33x8320 1 :=
  k0_pay58 numA (k0_pay55 numB wa wb) (k0_pay56 numA wa wb)

/-- The places of the second array that the round marks. -/
def hitsB (wa : FVec Ideal S33x8320 .f32) (wb : FVec Ideal S32x8192 .f32) : IVec S32x8192 1 :=
  k0_pay59 numB (k0_pay55 numB wa wb) (k0_pay56 numA wa wb)

/-- The coefficient of the cosine that the round computes. -/
def coefRe (ar : FVec Ideal S33x8320 .f32) (br : FVec Ideal S32x8192 .f32) (wa : FVec Ideal S33x8320 .f32) (wb : FVec Ideal S32x8192 .f32) :
    FVec Ideal S1x128 .f32 :=
  k0_pay66 (freq numA numB wa wb) (k0_pay60 ar br numA numB (k0_pay55 numB wa wb) (k0_pay56 numA wa wb))

/-- The coefficient of the sine that the round computes. -/
def coefIm (ai : FVec Ideal S33x8320 .f32) (bi : FVec Ideal S32x8192 .f32) (wa : FVec Ideal S33x8320 .f32) (wb : FVec Ideal S32x8192 .f32) :
    FVec Ideal S1x128 .f32 :=
  k0_pay67 (freq numA numB wa wb) (k0_pay61 ai numA (k0_pay55 numB wa wb) (k0_pay56 numA wa wb))
    (k0_pay62 bi numB (k0_pay55 numB wa wb) (k0_pay56 numA wa wb))

section Rounds

variable (ar ai wa : FVec Ideal S33x8320 .f32) (br bi wb : FVec Ideal S32x8192 .f32) (acc : FVec Ideal S128x64x128 .bf16)
  (v : IVec S1x128 32) (cr ci : FVec Ideal S1x128 .f32)

/-- The first round's frequency. -/
theorem first_freq : k0_pay28 br bi numA wa k0_pay24 k0_pay25 1073741824#32 = freq numA numB wa (k0_pay27 br bi k0_pay24) := rfl
/-- The first round's places in the first array. -/
theorem first_hitsA : k0_pay29 br bi numA wa k0_pay24 k0_pay25 1073741824#32 = hitsA wa (k0_pay27 br bi k0_pay24) := rfl
/-- The first round's places in the second array. -/
theorem first_hitsB : k0_pay30 br bi numA wa k0_pay24 k0_pay25 1073741824#32 = hitsB wa (k0_pay27 br bi k0_pay24) := rfl
/-- The first round marks the first array. -/
theorem first_markA : k0_pay32 wa (hitsA wa wb) = markA wa wb := rfl
/-- The first round marks the second array. -/
theorem first_markB : k0_pay33 wb (hitsB wa wb) = markB wa wb := rfl
/-- The first round's coefficient of the cosine. -/
theorem first_re : k0_pay35 ar br (freq numA numB wa wb) (hitsA wa wb) (hitsB wa wb) k0_pay31 = coefRe ar br wa wb := rfl
/-- The first round's coefficient of the sine. -/
theorem first_im : k0_pay36 ai bi (freq numA numB wa wb) (hitsA wa wb) (hitsB wa wb) = coefIm ai bi wa wb := rfl

/-- The second round's frequency. -/
theorem second_freq : k0_pay40 numA numB wa wb (k0_pay38 wa) (k0_pay39 wb) = freq numA numB wa wb := rfl
/-- The second round's places in the first array. -/
theorem second_hitsA : k0_pay41 numA numB wa wb (k0_pay38 wa) (k0_pay39 wb) = hitsA wa wb := rfl
/-- The second round's places in the second array. -/
theorem second_hitsB : k0_pay42 numA numB wa wb (k0_pay38 wa) (k0_pay39 wb) = hitsB wa wb := rfl
/-- The second round marks the first array. -/
theorem second_markA : k0_pay44 wa (hitsA wa wb) = markA wa wb := rfl
/-- The second round marks the second array. -/
theorem second_markB : k0_pay45 wb (hitsB wa wb) = markB wa wb := rfl
/-- The second round's coefficient of the cosine. -/
theorem second_re : k0_pay47 (freq numA numB wa wb) (k0_pay43 ar br numA numB wa wb (k0_pay38 wa) (k0_pay39 wb)) = coefRe ar br wa wb := rfl
/-- The second round's coefficient of the sine. -/
theorem second_im : k0_pay48 ai bi (freq numA numB wa wb) (hitsA wa wb) (hitsB wa wb) (Scalar.ofBits .f32 0x00000000#32)
    = coefIm ai bi wa wb := rfl
/-- The second round adds its term. -/
theorem second_add : k0_pay53 acc cr ci (k0_pay50 rowsA v) (k0_pay51 rowsA v) (k0_pay52 rowsB v)
    = addf acc (k0_pay37 rowsA rowsB v cr ci) := rfl

/-- The third round adds its term. -/
theorem third_add : k0_pay76 acc (k0_pay72 rowsB v) (k0_pay73 rowsB v)
      (k0_pay74 rowsA v (k0_pay60 ar br numA numB (k0_pay55 numB wa wb) (k0_pay56 numA wa wb))
        (k0_pay61 ai numA (k0_pay55 numB wa wb) (k0_pay56 numA wa wb)) (k0_pay62 bi numB (k0_pay55 numB wa wb) (k0_pay56 numA wa wb)))
      (k0_pay75 rowsA v (k0_pay60 ar br numA numB (k0_pay55 numB wa wb) (k0_pay56 numA wa wb))
        (k0_pay61 ai numA (k0_pay55 numB wa wb) (k0_pay56 numA wa wb)) (k0_pay62 bi numB (k0_pay55 numB wa wb) (k0_pay56 numA wa wb)))
    = addf acc (k0_pay37 rowsA rowsB v
      (k0_pay66 v (k0_pay60 ar br numA numB (k0_pay55 numB wa wb) (k0_pay56 numA wa wb)))
      (k0_pay67 v (k0_pay61 ai numA (k0_pay55 numB wa wb) (k0_pay56 numA wa wb)) (k0_pay62 bi numB (k0_pay55 numB wa wb) (k0_pay56 numA wa wb)))) := rfl

/-- The fourth round's frequency. -/
theorem fourth_freq : k0_pay77 numA numB wa wb = freq numA numB wa wb := rfl
/-- The fourth round's places in the first array. -/
theorem fourth_hitsA : k0_pay78 numA numB wa wb = hitsA wa wb := rfl
/-- The fourth round's places in the second array. -/
theorem fourth_hitsB : k0_pay79 numA numB wa wb = hitsB wa wb := rfl
/-- The fourth round's coefficient of the cosine. -/
theorem fourth_re : k0_pay81 ar br (freq numA numB wa wb) (hitsA wa wb) (hitsB wa wb) = coefRe ar br wa wb := rfl
/-- The fourth round's coefficient of the sine. -/
theorem fourth_im : k0_pay82 ai bi (freq numA numB wa wb) (hitsA wa wb) (hitsB wa wb) = coefIm ai bi wa wb := rfl
/-- The fourth round adds its term. -/
theorem fourth_add : k0_pay85 rowsB acc v cr ci (k0_pay83 rowsA v) k0_pay84
    = shapeCast S8192x128 (addf acc (k0_pay37 rowsA rowsB v cr ci)) shapeCasts_S128x64x128_S8192x128 := rfl

/-- A round's contribution through its coefficients. -/
theorem contrib_eq : contrib ar ai br bi wa wb = k0_pay37 rowsA rowsB (freq numA numB wa wb) (coefRe ar br wa wb) (coefIm ai bi wa wb) := rfl

end Rounds

variable (x0 : Vec Ideal S1x8192x128 .f32) (x1 x2 : Vec Ideal S72x128 .f32) (x3 x4 x5 x6 : Vec Ideal S72x64 .f32)
  (x7 : Vec Ideal S33x64 .f32) (x8 : Vec Ideal S32x64 .f32)

/-- The two amplitude arrays before round `i`. -/
def arrays : ℕ → FVec Ideal S33x8320 .f32 × FVec Ideal S32x8192 .f32
  | 0 => (k0_pay94 x0 x1 x2 x3 x4 x5 x6 x7 x8,
      k0_pay27 (k0_pay91 x0 x1 x2 x3 x4 x5 x6 x7 x8) (k0_pay92 x0 x1 x2 x3 x4 x5 x6 x7 x8) k0_pay24)
  | i + 1 => (markA (arrays i).1 (arrays i).2, markB (arrays i).1 (arrays i).2)

/-- Round `i`'s contribution. -/
def contribAt (i : ℕ) : FVec Ideal S128x64x128 .bf16 :=
  contrib (k0_pay89 x0 x1 x2 x3 x4 x5 x6 x7 x8) (k0_pay90 x0 x1 x2 x3 x4 x5 x6 x7 x8) (k0_pay91 x0 x1 x2 x3 x4 x5 x6 x7 x8)
    (k0_pay92 x0 x1 x2 x3 x4 x5 x6 x7 x8) (arrays x0 x1 x2 x3 x4 x5 x6 x7 x8 i).1 (arrays x0 x1 x2 x3 x4 x5 x6 x7 x8 i).2

/-- The first round's frequency, in the output's own words. -/
theorem freq_0 : k0_pay100 x0 x1 x2 x3 x4 x5 x6 x7 x8
    = freq numA numB (arrays x0 x1 x2 x3 x4 x5 x6 x7 x8 0).1 (arrays x0 x1 x2 x3 x4 x5 x6 x7 x8 0).2 :=
  first_freq (k0_pay94 x0 x1 x2 x3 x4 x5 x6 x7 x8) (k0_pay91 x0 x1 x2 x3 x4 x5 x6 x7 x8) (k0_pay92 x0 x1 x2 x3 x4 x5 x6 x7 x8)

/-- The first round's places in the first array, in the output's own words. -/
theorem hitsA_0 : k0_pay101 x0 x1 x2 x3 x4 x5 x6 x7 x8
    = hitsA (arrays x0 x1 x2 x3 x4 x5 x6 x7 x8 0).1 (arrays x0 x1 x2 x3 x4 x5 x6 x7 x8 0).2 :=
  first_hitsA (k0_pay94 x0 x1 x2 x3 x4 x5 x6 x7 x8) (k0_pay91 x0 x1 x2 x3 x4 x5 x6 x7 x8) (k0_pay92 x0 x1 x2 x3 x4 x5 x6 x7 x8)

/-- The first round's places in the second array, in the output's own words. -/
theorem hitsB_0 : k0_pay102 x0 x1 x2 x3 x4 x5 x6 x7 x8
    = hitsB (arrays x0 x1 x2 x3 x4 x5 x6 x7 x8 0).1 (arrays x0 x1 x2 x3 x4 x5 x6 x7 x8 0).2 :=
  first_hitsB (k0_pay94 x0 x1 x2 x3 x4 x5 x6 x7 x8) (k0_pay91 x0 x1 x2 x3 x4 x5 x6 x7 x8) (k0_pay92 x0 x1 x2 x3 x4 x5 x6 x7 x8)

/-- The first array after one round. -/
theorem wa_1 : k0_pay103 x0 x1 x2 x3 x4 x5 x6 x7 x8
    = (arrays x0 x1 x2 x3 x4 x5 x6 x7 x8 1).1 :=
  by
  unfold k0_pay103
  rw [hitsA_0]
  exact first_markA (arrays x0 x1 x2 x3 x4 x5 x6 x7 x8 0).1 (arrays x0 x1 x2 x3 x4 x5 x6 x7 x8 0).2

/-- The second array after one round. -/
theorem wb_1 : k0_pay104 x0 x1 x2 x3 x4 x5 x6 x7 x8
    = (arrays x0 x1 x2 x3 x4 x5 x6 x7 x8 1).2 :=
  by
  unfold k0_pay104
  rw [hitsB_0]
  exact first_markB (arrays x0 x1 x2 x3 x4 x5 x6 x7 x8 0).1 (arrays x0 x1 x2 x3 x4 x5 x6 x7 x8 0).2

/-- The second round's frequency, in the output's own words. -/
theorem freq_1 : k0_pay107 x0 x1 x2 x3 x4 x5 x6 x7 x8
    = freq numA numB (arrays x0 x1 x2 x3 x4 x5 x6 x7 x8 1).1 (arrays x0 x1 x2 x3 x4 x5 x6 x7 x8 1).2 :=
  by
  unfold k0_pay107 k0_pay105 k0_pay106
  rw [wa_1, wb_1]
  exact second_freq (arrays x0 x1 x2 x3 x4 x5 x6 x7 x8 1).1 (arrays x0 x1 x2 x3 x4 x5 x6 x7 x8 1).2

/-- The second round's places in the first array, in the output's own words. -/
theorem hitsA_1 : k0_pay108 x0 x1 x2 x3 x4 x5 x6 x7 x8
    = hitsA (arrays x0 x1 x2 x3 x4 x5 x6 x7 x8 1).1 (arrays x0 x1 x2 x3 x4 x5 x6 x7 x8 1).2 :=
  by
  unfold k0_pay108 k0_pay105 k0_pay106
  rw [wa_1, wb_1]
  exact second_hitsA (arrays x0 x1 x2 x3 x4 x5 x6 x7 x8 1).1 (arrays x0 x1 x2 x3 x4 x5 x6 x7 x8 1).2

/-- The second round's places in the second array, in the output's own words. -/
theorem hitsB_1 : k0_pay109 x0 x1 x2 x3 x4 x5 x6 x7 x8
    = hitsB (arrays x0 x1 x2 x3 x4 x5 x6 x7 x8 1).1 (arrays x0 x1 x2 x3 x4 x5 x6 x7 x8 1).2 :=
  by
  unfold k0_pay109 k0_pay105 k0_pay106
  rw [wa_1, wb_1]
  exact second_hitsB (arrays x0 x1 x2 x3 x4 x5 x6 x7 x8 1).1 (arrays x0 x1 x2 x3 x4 x5 x6 x7 x8 1).2

/-- The first array after two rounds. -/
theorem wa_2 : k0_pay110 x0 x1 x2 x3 x4 x5 x6 x7 x8
    = (arrays x0 x1 x2 x3 x4 x5 x6 x7 x8 2).1 :=
  by
  unfold k0_pay110
  rw [wa_1, hitsA_1]
  exact second_markA (arrays x0 x1 x2 x3 x4 x5 x6 x7 x8 1).1 (arrays x0 x1 x2 x3 x4 x5 x6 x7 x8 1).2

/-- The second array after two rounds. -/
theorem wb_2 : k0_pay111 x0 x1 x2 x3 x4 x5 x6 x7 x8
    = (arrays x0 x1 x2 x3 x4 x5 x6 x7 x8 2).2 :=
  by
  unfold k0_pay111
  rw [wb_1, hitsB_1]
  exact second_markB (arrays x0 x1 x2 x3 x4 x5 x6 x7 x8 1).1 (arrays x0 x1 x2 x3 x4 x5 x6 x7 x8 1).2

/-- The third round's candidates of the second array. -/
theorem keyB_2 : k0_pay112 x0 x1 x2 x3 x4 x5 x6 x7 x8
    = k0_pay55 numB (arrays x0 x1 x2 x3 x4 x5 x6 x7 x8 2).1 (arrays x0 x1 x2 x3 x4 x5 x6 x7 x8 2).2 :=
  by
  unfold k0_pay112
  rw [wa_2, wb_2]
  rfl

/-- The third round's candidates of the first array. -/
theorem keyA_2 : k0_pay113 x0 x1 x2 x3 x4 x5 x6 x7 x8
    = k0_pay56 numA (arrays x0 x1 x2 x3 x4 x5 x6 x7 x8 2).1 (arrays x0 x1 x2 x3 x4 x5 x6 x7 x8 2).2 :=
  by
  unfold k0_pay113
  rw [wa_2, wb_2]
  rfl

/-- The third round's frequency, in the output's own words. -/
theorem freq_2 : k0_pay114 x0 x1 x2 x3 x4 x5 x6 x7 x8
    = freq numA numB (arrays x0 x1 x2 x3 x4 x5 x6 x7 x8 2).1 (arrays x0 x1 x2 x3 x4 x5 x6 x7 x8 2).2 :=
  by
  unfold k0_pay114
  rw [keyB_2, keyA_2]
  rfl

/-- The first array after three rounds. -/
theorem wa_3 : k0_pay118 x0 x1 x2 x3 x4 x5 x6 x7 x8
    = (arrays x0 x1 x2 x3 x4 x5 x6 x7 x8 3).1 :=
  by
  unfold k0_pay118
  rw [wa_2, keyB_2, keyA_2]
  rfl

/-- The second array after three rounds. -/
theorem wb_3 : k0_pay119 x0 x1 x2 x3 x4 x5 x6 x7 x8
    = (arrays x0 x1 x2 x3 x4 x5 x6 x7 x8 3).2 :=
  by
  unfold k0_pay119
  rw [wb_2, keyB_2, keyA_2]
  rfl

/-- The fourth round's frequency, in the output's own words. -/
theorem freq_3 : k0_pay120 x0 x1 x2 x3 x4 x5 x6 x7 x8
    = freq numA numB (arrays x0 x1 x2 x3 x4 x5 x6 x7 x8 3).1 (arrays x0 x1 x2 x3 x4 x5 x6 x7 x8 3).2 :=
  by
  unfold k0_pay120
  rw [wa_3, wb_3]
  exact fourth_freq (arrays x0 x1 x2 x3 x4 x5 x6 x7 x8 3).1 (arrays x0 x1 x2 x3 x4 x5 x6 x7 x8 3).2

/-- The fourth round's places in the first array, in the output's own words. -/
theorem hitsA_3 : k0_pay121 x0 x1 x2 x3 x4 x5 x6 x7 x8
    = hitsA (arrays x0 x1 x2 x3 x4 x5 x6 x7 x8 3).1 (arrays x0 x1 x2 x3 x4 x5 x6 x7 x8 3).2 :=
  by
  unfold k0_pay121
  rw [wa_3, wb_3]
  exact fourth_hitsA (arrays x0 x1 x2 x3 x4 x5 x6 x7 x8 3).1 (arrays x0 x1 x2 x3 x4 x5 x6 x7 x8 3).2

/-- The fourth round's places in the second array, in the output's own words. -/
theorem hitsB_3 : k0_pay122 x0 x1 x2 x3 x4 x5 x6 x7 x8
    = hitsB (arrays x0 x1 x2 x3 x4 x5 x6 x7 x8 3).1 (arrays x0 x1 x2 x3 x4 x5 x6 x7 x8 3).2 :=
  by
  unfold k0_pay122
  rw [wa_3, wb_3]
  exact fourth_hitsB (arrays x0 x1 x2 x3 x4 x5 x6 x7 x8 3).1 (arrays x0 x1 x2 x3 x4 x5 x6 x7 x8 3).2

/-- The output block is the sum of the four rounds' contributions, read as 8192 rows. -/
theorem out_eq :
    out0_9 x0 x1 x2 x3 x4 x5 x6 x7 x8 = k0_pay1 (shapeCast S8192x128
      (addf (addf (addf (contribAt x0 x1 x2 x3 x4 x5 x6 x7 x8 0) (contribAt x0 x1 x2 x3 x4 x5 x6 x7 x8 1))
        (contribAt x0 x1 x2 x3 x4 x5 x6 x7 x8 2)) (contribAt x0 x1 x2 x3 x4 x5 x6 x7 x8 3)) shapeCasts_S128x64x128_S8192x128) := by
  have e93 : k0_pay93 x0 x1 x2 x3 x4 x5 x6 x7 x8 = numA := rfl
  have e97 : k0_pay97 x0 x1 x2 x3 x4 x5 x6 x7 x8 = rowsA := rfl
  have e98 : k0_pay98 x0 x1 x2 x3 x4 x5 x6 x7 x8 = rowsB := rfl
  have e99 : k0_pay99 x0 x1 x2 x3 x4 x5 x6 x7 x8 = numB := rfl
  unfold out0_9 k0_pay105 k0_pay106 k0_pay115 k0_pay116 k0_pay117
  rw [e93, e97, e98, e99, freq_0, hitsA_0, hitsB_0, wa_1, wb_1, freq_1, hitsA_1, hitsB_1, keyB_2, keyA_2, freq_2, freq_3, hitsA_3, hitsB_3]
  rw [first_re, first_im, second_re, second_im, second_add, third_add, fourth_re, fourth_im, fourth_add]
  exact View.canon_unit_zero (funext fun a => by fin_cases a <;> rfl) _ _

/-- The two arrays keep holding what they should through the rounds. -/
theorem holds_arrays (hT : Tables x1 x2 x3 x4 x5 x6 x7 x8) (l : Fin 128) (x : ℕ → ℝ)
    (hx : ∀ t : Fin 8192, x0 (ix3 0 t l) = ((x t.val : ℝ) : EReal)) (f : ℕ → ℕ)
    (hf : ∀ i, i < 4 → Next (amp x) ((Finset.range i).image f) (f i)) (i : ℕ) (hi : i ≤ 4) :
    Holds (amp x) ((Finset.range i).image f) l (arrays x0 x1 x2 x3 x4 x5 x6 x7 x8 i).1 (arrays x0 x1 x2 x3 x4 x5 x6 x7 x8 i).2 := by
  induction i with
  | zero => exact holds_start x0 x1 x2 x3 x4 x5 x6 x7 x8 hT l x hx
  | succ i ih =>
    rw [Finset.range_add_one, Finset.image_insert]
    exact holds_mark (amp x) (fun f => add_nonneg (mul_self_nonneg _) (mul_self_nonneg _)) _ l _ _ (ih (by omega)) (f i) (hf i (by omega))

/-- A round's contribution at a lane: the term of the frequency selected in that round. -/
theorem contribAt_apply (hT : Tables x1 x2 x3 x4 x5 x6 x7 x8) (l : Fin 128) (x : ℕ → ℝ)
    (hx : ∀ t : Fin 8192, x0 (ix3 0 t l) = ((x t.val : ℝ) : EReal)) (f : ℕ → ℕ)
    (hf : ∀ i, i < 4 → Next (amp x) ((Finset.range i).image f) (f i)) (i : ℕ) (hi : i < 4) (b : Fin 128) (a : Fin 64) :
    contribAt x0 x1 x2 x3 x4 x5 x6 x7 x8 i (ix3 b a l) = ((term (f i) (64 * b.val + a.val) (Re x (f i)) (Im x (f i)) : ℝ) : EReal) :=
  contrib_apply _ _ _ _ _ _ l x (ar_apply x0 x1 x2 x3 x4 x5 x6 x7 x8 hT l x hx) (ai_apply x0 x1 x2 x3 x4 x5 x6 x7 x8 hT l x hx) (br_apply x0 x1 x2 x3 x4 x5 x6 x7 x8 hT l x hx)
    (bi_apply x0 x1 x2 x3 x4 x5 x6 x7 x8 hT l x hx) _ (holds_arrays x0 x1 x2 x3 x4 x5 x6 x7 x8 hT l x hx f hf i hi.le) (f i) (hf i hi) b a

/-- What the output block holds at time `t = 64 b + a` of a lane: the four selected frequencies' terms, added up. -/
theorem out_apply (hT : Tables x1 x2 x3 x4 x5 x6 x7 x8) (l : Fin 128) (x : ℕ → ℝ)
    (hx : ∀ t : Fin 8192, x0 (ix3 0 t l) = ((x t.val : ℝ) : EReal)) (f : ℕ → ℕ)
    (hf : ∀ i, i < 4 → Next (amp x) ((Finset.range i).image f) (f i)) (t : Fin 8192) :
    out0_9 x0 x1 x2 x3 x4 x5 x6 x7 x8 (ix3 0 t l) = ((∑ i ∈ Finset.range 4, term (f i) t.val (Re x (f i)) (Im x (f i)) : ℝ) : EReal) := by
  have c := contribAt_apply x0 x1 x2 x3 x4 x5 x6 x7 x8 hT l x hx f hf
  have e : ∀ c0 c1 c2 c3 : FVec Ideal S128x64x128 .bf16, k0_pay1 (shapeCast S8192x128 (addf (addf (addf c0 c1) c2) c3)
      shapeCasts_S128x64x128_S8192x128) (ix3 0 t l) = c0 (ix3 ⟨t.val / 64, by omega⟩ ⟨t.val % 64, by omega⟩ l)
      + c1 (ix3 ⟨t.val / 64, by omega⟩ ⟨t.val % 64, by omega⟩ l)
      + c2 (ix3 ⟨t.val / 64, by omega⟩ ⟨t.val % 64, by omega⟩ l)
      + c3 (ix3 ⟨t.val / 64, by omega⟩ ⟨t.val % 64, by omega⟩ l) := by
    intro c0 c1 c2 c3
    pointwise [k0_pay1]
  have ht : 64 * (t.val / 64) + t.val % 64 = t.val := by omega
  rw [out_eq, e, c 0 (by omega), c 1 (by omega), c 2 (by omega), c 3 (by omega)]
  simp only [ht, Finset.sum_range_succ, Finset.sum_range_zero, zero_add, EReal.coe_add]

end Cert.Round
-- ==== Proof.Turn.lean ====
module

public import proofs.«01_k».proof.Proof.Term

/-!
# The host's angles

The host computes the angle of an entry of a table as a remainder of integers times a fraction of a turn. The fraction comes
from the arc cosine of minus one, which is half a turn. The remainder drops whole turns, so the cosine and the sine of the
angle are those of the undivided product.
-/

@[expose] public section

noncomputable section

namespace Cert.Round

open Idealize.ShloMosaic

/-- The remainder of two small words that are not negative is the remainder of the numbers. -/
theorem rem_word (n m : ℕ) (hn : n < 2 ^ 31) (hm : 0 < m) (hm' : m < 2 ^ 31) :
    IntOp.remsi .host (BitVec.ofNat 32 n) (BitVec.ofNat 32 m) = BitVec.ofNat 32 (n % m) := by
  have hr : n % m < m := Nat.mod_lt n hm
  have h0 : ¬ IntOp.SDivCorner (BitVec.ofNat 32 n) (BitVec.ofNat 32 m) := by
    intro h
    unfold IntOp.SDivCorner at h
    rcases h with h | ⟨h, -⟩
    · have := (ofNat_inj (a := m) (b := 0) hm' (by norm_num)).1 h
      omega
    · have h' := congrArg BitVec.toInt h
      rw [toInt_ofNat hn] at h'
      have h2 : (BitVec.intMin 32).toInt = -2147483648 := by decide
      omega
  rw [IntOp.remsi, if_neg h0]
  apply BitVec.eq_of_toInt_eq
  rw [BitVec.toInt_srem, toInt_ofNat hn, toInt_ofNat hm', toInt_ofNat (by omega)]
  exact (Int.ofNat_tmod n m).symm

/-- The product of two words of small numbers is the word of the product. -/
theorem mul_word (a b : ℕ) : IntOp.muli (BitVec.ofNat 32 a) (BitVec.ofNat 32 b) = BitVec.ofNat 32 (a * b) := by
  unfold IntOp.muli
  rw [BitVec.ofNat_mul]

/-- The sum of two words of small numbers is the word of the sum. -/
theorem add_word (a b : ℕ) : IntOp.addi (BitVec.ofNat 32 a) (BitVec.ofNat 32 b) = BitVec.ofNat 32 (a + b) := by
  unfold IntOp.addi
  rw [BitVec.ofNat_add]

/-- The arc cosine of minus one is half a turn. -/
theorem acos_neg_one : Ideal.acos (Ideal.ofBits .f32 0xBF800000#32) = ((Real.pi : ℝ) : EReal) := by
  rw [ofBits_neg_one, Ideal.acos_coe, if_pos ⟨le_refl _, by norm_num⟩, Real.arccos_neg_one]

/-- The host's angle of an entry: the remainder of the product of its two numbers, times a fraction `u` of half a turn. -/
def hostAngle (w : BitVec 32) (m : BitVec 32) (u : BitVec 32) : EReal :=
  ((((IntOp.remsi .host w m).toInt : ℝ)) : EReal) * (Ideal.acos (Ideal.ofBits .f32 0xBF800000#32) * Ideal.ofBits .f32 u)

/-- The host's angle as a real number. -/
theorem hostAngle_eq (n m : ℕ) (u : BitVec 32) (q : ℝ) (hn : n < 2 ^ 31) (hm : 0 < m) (hm' : m < 2 ^ 31)
    (hu : Ideal.ofBits .f32 u = ((q : ℝ) : EReal)) :
    hostAngle (BitVec.ofNat 32 n) (BitVec.ofNat 32 m) u = ((((n % m : ℕ) : ℝ) * (Real.pi * q) : ℝ) : EReal) := by
  have hr : n % m < m := Nat.mod_lt n hm
  rw [hostAngle, rem_word n m hn hm hm', toInt_ofNat (by omega), acos_neg_one, hu, Int.cast_natCast, ← EReal.coe_mul, ← EReal.coe_mul]

/-- The cosine of minus an angle whose whole turns were dropped. -/
theorem cos_hostAngle (n m : ℕ) (u : BitVec 32) (q : ℝ) (hn : n < 2 ^ 31) (hm : 0 < m) (hm' : m < 2 ^ 31)
    (hu : Ideal.ofBits .f32 u = ((q : ℝ) : EReal)) (hq : (m : ℝ) * q = 2 ∨ (m : ℝ) * q = -2) :
    Ideal.cos (hostAngle (BitVec.ofNat 32 n) (BitVec.ofNat 32 m) u) = ((Real.cos (Real.pi * q * (n : ℝ)) : ℝ) : EReal) := by
  rw [hostAngle_eq n m u q hn hm hm' hu, Ideal.cos_coe, EReal.coe_eq_coe_iff, mul_comm _ (n : ℝ)]
  rcases hq with hq | hq
  · exact cos_mod n m hm _ (by rw [mul_left_comm, hq]; ring)
  · have h := cos_mod n m hm (-(Real.pi * q)) (by rw [mul_neg, mul_left_comm, hq]; ring)
    rwa [mul_neg, mul_neg, Real.cos_neg, Real.cos_neg] at h

/-- The sine of an angle whose whole turns were dropped. -/
theorem sin_hostAngle (n m : ℕ) (u : BitVec 32) (q : ℝ) (hn : n < 2 ^ 31) (hm : 0 < m) (hm' : m < 2 ^ 31)
    (hu : Ideal.ofBits .f32 u = ((q : ℝ) : EReal)) (hq : (m : ℝ) * q = 2 ∨ (m : ℝ) * q = -2) :
    Ideal.sin (hostAngle (BitVec.ofNat 32 n) (BitVec.ofNat 32 m) u) = ((Real.sin (Real.pi * q * (n : ℝ)) : ℝ) : EReal) := by
  rw [hostAngle_eq n m u q hn hm hm' hu, Ideal.sin_coe, EReal.coe_eq_coe_iff, mul_comm _ (n : ℝ)]
  rcases hq with hq | hq
  · exact sin_mod n m hm _ (by rw [mul_left_comm, hq]; ring)
  · have h := sin_mod n m hm (-(Real.pi * q)) (by rw [mul_neg, mul_left_comm, hq]; ring)
    rwa [mul_neg, mul_neg, Real.sin_neg, Real.sin_neg, neg_inj] at h

/-- The fraction of the first stage. -/
theorem ofBits_turn1 : Ideal.ofBits .f32 0xBC800000#32 = ((-(1 / 64) : ℝ) : EReal) := by
  simp [Ideal.ofBits, Ideal.ieee, -EReal.coe_mul, -EReal.coe_neg]; norm_num

/-- The fraction of the turn between the stages. -/
theorem ofBits_turn2 : Ideal.ofBits .f32 0xB9800000#32 = ((-(1 / 4096) : ℝ) : EReal) := by
  simp [Ideal.ofBits, Ideal.ieee, -EReal.coe_mul, -EReal.coe_neg]; norm_num

/-- The fraction of the second stage. -/
theorem ofBits_turn3 : Ideal.ofBits .f32 0xBD000000#32 = ((-(1 / 32) : ℝ) : EReal) := by
  simp [Ideal.ofBits, Ideal.ieee, -EReal.coe_mul, -EReal.coe_neg]; norm_num

end Cert.Round
-- ==== Proof.Tables.lean ====
module

public import proofs.«01_k».proof.Proof.Spectrum
public import proofs.«01_k».proof.Proof.Turn
public import Idealize.ShloMosaic.Lib.StableHlo.ReadAt

/-!
# The tables the host hands to the kernel

Before the kernel the host fills eight tables with cosines and sines. Each theorem below reads one of them at an entry.
-/

@[expose] public section

set_option maxRecDepth 16384

noncomputable section

namespace Cert.Round

open Idealize.ShloMosaic Idealize.SL.Sem Cert.KernelIdeal Cert.KernelIdeal.Gen Idealize.ShloMosaic.TcCoe

variable (m : (ℓ : Loc nD τ sig) → Buf (Elt Ideal) ℓ) (c : Dev nD)

/-- A row below 65 is kept. -/
theorem live_row {A : Type} (k : Fin 65) (x y : A) : Scalar.select (IntOp.cmpi .slt (BitVec.ofNat 32 k.val) 65#32) x y = x := by
  have h : (BitVec.ofNat 32 k.val).slt 65#32 = true := by
    have h65 : (65#32 : BitVec 32).toInt = 65 := by decide
    rw [BitVec.slt_iff_toInt_lt, toInt_ofNat (by omega), h65]
    have := k.isLt
    omega
  simp [IntOp.cmpi, h, Scalar.select]

/-- The first stage's cosine. -/
theorem cos1 (k : Fin 65) (n : Fin 128) :
    Ideal.cos (hostAngle (IntOp.muli (BitVec.ofNat 32 k.val) (BitVec.ofNat 32 n.val)) 128#32 0xBC800000#32)
      = ((Real.cos (ang1 k.val n.val) : ℝ) : EReal) := by
  have hb : k.val * n.val < 2 ^ 31 := lt_of_le_of_lt (Nat.mul_le_mul k.isLt.le n.isLt.le) (by norm_num)
  rw [mul_word, cos_hostAngle _ 128 _ _ hb (by norm_num) (by norm_num) ofBits_turn1 (.inr (by norm_num)), ang1]
  congr 2; push_cast; ring

/-- The first stage's sine. -/
theorem sin1 (k : Fin 65) (n : Fin 128) :
    Ideal.sin (hostAngle (IntOp.muli (BitVec.ofNat 32 k.val) (BitVec.ofNat 32 n.val)) 128#32 0xBC800000#32)
      = ((Real.sin (ang1 k.val n.val) : ℝ) : EReal) := by
  have hb : k.val * n.val < 2 ^ 31 := lt_of_le_of_lt (Nat.mul_le_mul k.isLt.le n.isLt.le) (by norm_num)
  rw [mul_word, sin_hostAngle _ 128 _ _ hb (by norm_num) (by norm_num) ofBits_turn1 (.inr (by norm_num)), ang1]
  congr 2; push_cast; ring

/-- The cosine of the turn between the stages. -/
theorem cos2 (k : Fin 65) (n : Fin 64) :
    Ideal.cos (hostAngle (IntOp.muli (BitVec.ofNat 32 k.val) (BitVec.ofNat 32 n.val)) 8192#32 0xB9800000#32)
      = ((Real.cos (ang2 k.val n.val) : ℝ) : EReal) := by
  have hb : k.val * n.val < 2 ^ 31 := lt_of_le_of_lt (Nat.mul_le_mul k.isLt.le n.isLt.le) (by norm_num)
  rw [mul_word, cos_hostAngle _ 8192 _ _ hb (by norm_num) (by norm_num) ofBits_turn2 (.inr (by norm_num)), ang2]
  congr 2; push_cast; ring

/-- The sine of the turn between the stages. -/
theorem sin2 (k : Fin 65) (n : Fin 64) :
    Ideal.sin (hostAngle (IntOp.muli (BitVec.ofNat 32 k.val) (BitVec.ofNat 32 n.val)) 8192#32 0xB9800000#32)
      = ((Real.sin (ang2 k.val n.val) : ℝ) : EReal) := by
  have hb : k.val * n.val < 2 ^ 31 := lt_of_le_of_lt (Nat.mul_le_mul k.isLt.le n.isLt.le) (by norm_num)
  rw [mul_word, sin_hostAngle _ 8192 _ _ hb (by norm_num) (by norm_num) ofBits_turn2 (.inr (by norm_num)), ang2]
  congr 2; push_cast; ring

/-- The second stage's cosine. -/
theorem cos3 (k : ℕ) (n : Fin 64) (hk : k ≤ 64) :
    Ideal.cos (hostAngle (IntOp.muli (BitVec.ofNat 32 k) (BitVec.ofNat 32 n.val)) 64#32 0xBD000000#32)
      = ((Real.cos (ang3 k n.val) : ℝ) : EReal) := by
  have hb : k * n.val < 2 ^ 31 := lt_of_le_of_lt (Nat.mul_le_mul hk n.isLt.le) (by norm_num)
  rw [mul_word, cos_hostAngle _ 64 _ _ hb (by norm_num) (by norm_num) ofBits_turn3 (.inr (by norm_num)), ang3]
  congr 2; push_cast; ring

/-- The second stage's sine. -/
theorem sin3 (k : ℕ) (n : Fin 64) (hk : k ≤ 64) :
    Ideal.sin (hostAngle (IntOp.muli (BitVec.ofNat 32 k) (BitVec.ofNat 32 n.val)) 64#32 0xBD000000#32)
      = ((Real.sin (ang3 k n.val) : ℝ) : EReal) := by
  have hb : k * n.val < 2 ^ 31 := lt_of_le_of_lt (Nat.mul_le_mul hk n.isLt.le) (by norm_num)
  rw [mul_word, sin_hostAngle _ 64 _ _ hb (by norm_num) (by norm_num) ofBits_turn3 (.inr (by norm_num)), ang3]
  congr 2; push_cast; ring

/-- The table of the first stage's cosines. -/
theorem d1r_at (k : Fin 65) (n : Fin 128) :
    (V m c main_v14 : FVec Ideal S72x128 .f32) (ix2 ⟨k.val, by omega⟩ n) = ((Real.cos (ang1 k.val n.val) : ℝ) : EReal) := by
  unfold V
  after_reads_at
  exact (live_row k _ _).trans (cos1 k n)

/-- The table of the first stage's sines. -/
theorem d1i_at (k : Fin 65) (n : Fin 128) :
    (V m c main_v16 : FVec Ideal S72x128 .f32) (ix2 ⟨k.val, by omega⟩ n) = ((Real.sin (ang1 k.val n.val) : ℝ) : EReal) := by
  unfold V
  after_reads_at
  exact (live_row k _ _).trans (sin1 k n)

/-- The table of the cosines between the stages. -/
theorem tr_at (k : Fin 65) (n : Fin 64) :
    (V m c main_v31 : FVec Ideal S72x64 .f32) (ix2 ⟨k.val, by omega⟩ n) = ((Real.cos (ang2 k.val n.val) : ℝ) : EReal) := by
  unfold V
  after_reads_at
  exact (live_row k _ _).trans (cos2 k n)

/-- The table of the sines between the stages. -/
theorem ti_at (k : Fin 65) (n : Fin 64) :
    (V m c main_v33 : FVec Ideal S72x64 .f32) (ix2 ⟨k.val, by omega⟩ n) = ((Real.sin (ang2 k.val n.val) : ℝ) : EReal) := by
  unfold V
  after_reads_at
  exact (live_row k _ _).trans (sin2 k n)

/-- The second stage's cosines for the lower rows. -/
theorem ear_at (r : Fin 33) (n : Fin 64) :
    (V m c main_v44 : FVec Ideal S33x64 .f32) (ix2 r n) = ((Real.cos (ang3 r.val n.val) : ℝ) : EReal) := by
  unfold V
  after_reads_at
  exact cos3 r.val n (by omega)

/-- The second stage's sines for the lower rows. -/
theorem eai_at (r : Fin 33) (n : Fin 64) :
    (V m c main_v45 : FVec Ideal S33x64 .f32) (ix2 r n) = ((Real.sin (ang3 r.val n.val) : ℝ) : EReal) := by
  unfold V
  after_reads_at
  exact sin3 r.val n (by omega)

/-- The second stage's cosines for the upper rows. -/
theorem ebr_at (r : Fin 32) (n : Fin 64) :
    (V m c main_v59 : FVec Ideal S32x64 .f32) (ix2 r n) = ((Real.cos (ang3 (r.val + 1) n.val) : ℝ) : EReal) := by
  unfold V
  after_reads_at
  have h := cos3 (r.val + 1) n (by omega)
  rw [← add_word] at h
  exact h

/-- The second stage's sines for the upper rows. -/
theorem ebi_at (r : Fin 32) (n : Fin 64) :
    (V m c main_v60 : FVec Ideal S32x64 .f32) (ix2 r n) = ((Real.sin (ang3 (r.val + 1) n.val) : ℝ) : EReal) := by
  unfold V
  after_reads_at
  have h := sin3 (r.val + 1) n (by omega)
  rw [← add_word] at h
  exact h

/-- The sums of the cosines and the sines for the lower rows. -/
theorem eas_at (r : Fin 33) (n : Fin 64) :
    (V m c main_v46 : FVec Ideal S33x64 .f32) (ix2 r n)
      = ((Real.cos (ang3 r.val n.val) + Real.sin (ang3 r.val n.val) : ℝ) : EReal) := by
  unfold V
  after_reads_at
  rw [EReal.coe_add, ← cos3 r.val n (by omega), ← sin3 r.val n (by omega)]
  rfl

/-- The sums of the cosines and the sines for the upper rows. -/
theorem ebs_at (r : Fin 32) (n : Fin 64) :
    (V m c main_v61 : FVec Ideal S32x64 .f32) (ix2 r n)
      = ((Real.cos (ang3 (r.val + 1) n.val) + Real.sin (ang3 (r.val + 1) n.val) : ℝ) : EReal) := by
  unfold V
  after_reads_at
  rw [EReal.coe_add, ← cos3 (r.val + 1) n (by omega), ← sin3 (r.val + 1) n (by omega), ← add_word]
  rfl

/-- Three tables, one under the other. -/
def stack (a : FVec Ideal S33x64 .f32) (z : FVec Ideal S7x64 .f32) (b : FVec Ideal S32x64 .f32) : FVec Ideal S72x64 .f32 :=
  concatenate S72x64 0 [⟨S33x64, a⟩, ⟨S7x64, z⟩, ⟨S32x64, b⟩] concatenates_S33x64_S7x64_S32x64_S72x64_d0

/-- A row of the first table. -/
theorem stack_low (a : FVec Ideal S33x64 .f32) (z : FVec Ideal S7x64 .f32) (b : FVec Ideal S32x64 .f32) (r : Fin 33) (n : Fin 64) :
    stack a z b (ix2 ⟨r.val, by omega⟩ n) = a (ix2 r n) := by
  pointwise [stack]

/-- A row of the third table. -/
theorem stack_high (a : FVec Ideal S33x64 .f32) (z : FVec Ideal S7x64 .f32) (b : FVec Ideal S32x64 .f32) (r : Fin 32) (n : Fin 64) :
    stack a z b (ix2 ⟨40 + r.val, by omega⟩ n) = b (ix2 r n) := by
  have e : stack a z b (ix2 ⟨40 + r.val, by omega⟩ n) = if h : 40 + r.val < 33 then a (ix2 ⟨40 + r.val, h⟩ n)
      else if h' : 40 + r.val - 33 < 7 then z (ix2 ⟨40 + r.val - 33, h'⟩ n)
      else b (ix2 ⟨40 + r.val - 33 - 7, by omega⟩ n) := by
    pointwise [stack]
  rw [e, dif_neg (by omega), dif_neg (by omega)]
  congr 2
  exact Fin.ext (by show 40 + r.val - 33 - 7 = r.val; omega)

/-- An array after the first `k` host operations. -/
abbrev readAfter (k : ℕ) (b : Ref sig .tc) : b.ty.Contents (Elt Ideal) :=
  StableHlo.upto (List.flatten [hostOps0, hostOps0_1, hostOps0_2, hostOps0_3, hostOps0_4, hostOps0_5, hostOps0_6, hostOps0_7, hostOps0_8])
    (fun b => m (c, b)) k (Proc.devRef .tc b)

/-- The stacked table of cosines. -/
theorem e1_eq : (V m c main_v63 : FVec Ideal S72x64 .f32) = stack (V m c main_v44) (V m c main_v62) (V m c main_v59) := by
  unfold V
  after_reads_simp
  show stack (readAfter m c 91 main_v44) (readAfter m c 91 main_v62)
    (readAfter m c 91 main_v59) = _
  after_reads_simp

/-- The stacked table of sines. -/
theorem e2_eq : (V m c main_v65 : FVec Ideal S72x64 .f32) = stack (V m c main_v45) (V m c main_v64) (V m c main_v60) := by
  unfold V
  after_reads_simp
  show stack (readAfter m c 94 main_v45) (readAfter m c 94 main_v64)
    (readAfter m c 94 main_v60) = _
  after_reads_simp

/-- The eight tables are what the kernel's rounds ask for. -/
theorem tables_hold : Tables (V m c main_v14) (V m c main_v16) (V m c main_v31) (V m c main_v33) (V m c main_v63) (V m c main_v65)
    (V m c main_v46) (V m c main_v61) where
  d1r := d1r_at m c
  d1i := d1i_at m c
  tr := tr_at m c
  ti := ti_at m c
  e1a r n := by
    have h : (V m c main_v63 : FVec Ideal S72x64 .f32) (ix2 ⟨r.val, by omega⟩ n) = _ := congrFun (e1_eq m c) _
    exact h.trans ((stack_low _ _ _ r n).trans (ear_at m c r n))
  e1b r n := by
    have h : (V m c main_v63 : FVec Ideal S72x64 .f32) (ix2 ⟨40 + r.val, by omega⟩ n) = _ := congrFun (e1_eq m c) _
    exact h.trans ((stack_high _ _ _ r n).trans (ebr_at m c r n))
  e2a r n := by
    have h : (V m c main_v65 : FVec Ideal S72x64 .f32) (ix2 ⟨r.val, by omega⟩ n) = _ := congrFun (e2_eq m c) _
    exact h.trans ((stack_low _ _ _ r n).trans (eai_at m c r n))
  e2b r n := by
    have h : (V m c main_v65 : FVec Ideal S72x64 .f32) (ix2 ⟨40 + r.val, by omega⟩ n) = _ := congrFun (e2_eq m c) _
    exact h.trans ((stack_high _ _ _ r n).trans (ebi_at m c r n))
  eas := eas_at m c
  ebs := ebs_at m c

end Cert.Round
-- ==== Proof.TopFour.lean ====
module

public import proofs.«01_k».proof.Proof.Spectrum

/-!
# The four chosen frequencies

Any score on the frequencies 0 … 4096 has a best one outside a small set. Taking the best four times in a row names the four
chosen frequencies.
-/

@[expose] public section

noncomputable section

namespace Cert.Round

/-- Outside a set of fewer than 4097 frequencies there is a best one, the lowest of those with the highest score. -/
theorem exists_next (a : ℕ → ℝ) (S : Finset ℕ) (hS : S.card < 4097) : ∃ f, Next a S f := by
  have hne : (Finset.range 4097 \ S).Nonempty := by
    rw [← Finset.card_pos]
    have := Finset.le_card_sdiff S (Finset.range 4097)
    rw [Finset.card_range] at this
    omega
  obtain ⟨g, hg, hmax⟩ := Finset.exists_max_image _ a hne
  have hne' : ((Finset.range 4097 \ S).filter fun f => a f = a g).Nonempty := ⟨g, by simp [Finset.mem_filter, hg]⟩
  obtain ⟨f, hf, hmin⟩ := Finset.exists_min_image _ id hne'
  rw [Finset.mem_filter, Finset.mem_sdiff, Finset.mem_range] at hf
  obtain ⟨⟨hf1, hf2⟩, hf3⟩ := hf
  refine ⟨f, by omega, hf2, fun f' h' hn => ?_⟩
  have hm : f' ∈ Finset.range 4097 \ S := by
    rw [Finset.mem_sdiff, Finset.mem_range]
    exact ⟨by omega, hn⟩
  refine ⟨hf3 ▸ hmax f' hm, fun he => ?_⟩
  exact hmin f' (by rw [Finset.mem_filter]; exact ⟨hm, he.trans hf3⟩)

/-- The set of the first `k` choices. -/
def chosen (a : ℕ → ℝ) : ℕ → Finset ℕ
  | 0 => ∅
  | k + 1 => insert (open Classical in if h : ∃ f, Next a (chosen a k) f then h.choose else 0) (chosen a k)

/-- The choice after the first `k`. -/
def best (a : ℕ → ℝ) (k : ℕ) : ℕ := open Classical in if h : ∃ f, Next a (chosen a k) f then h.choose else 0

/-- The first `k` choices are the values of `best` below `k`. -/
theorem chosen_eq (a : ℕ → ℝ) (k : ℕ) : chosen a k = (Finset.range k).image (best a) := by
  induction k with
  | zero => rfl
  | succ k ih => rw [Finset.range_add_one, Finset.image_insert, ← ih]; rfl

/-- Each of the four choices is the best frequency outside the earlier ones. -/
theorem best_next (a : ℕ → ℝ) (i : ℕ) (hi : i < 4) : Next a ((Finset.range i).image (best a)) (best a i) := by
  rw [← chosen_eq]
  have hc : (chosen a i).card < 4097 := by
    rw [chosen_eq]
    have := Finset.card_image_le (s := Finset.range i) (f := best a)
    rw [Finset.card_range] at this
    omega
  have h := exists_next a _ hc
  unfold best
  rw [dif_pos h]
  exact h.choose_spec

/-- The four choices are different. -/
theorem best_inj (a : ℕ → ℝ) (i j : ℕ) (hi : i < 4) (hj : j < 4) (he : best a i = best a j) : i = j := by
  have key : ∀ i j, i < j → j < 4 → best a i ≠ best a j := fun i j hij hj he =>
    (best_next a j hj).new (Finset.mem_image.2 ⟨i, Finset.mem_range.2 hij, he⟩)
  rcases lt_trichotomy i j with h | h | h
  · exact absurd he (key i j h hj)
  · exact h
  · exact absurd he.symm (key j i h hi)

/-- One column's result at time `t`: the sum of the four chosen waves. -/
def answer (x : ℕ → ℝ) (t : ℕ) : ℝ :=
  ∑ i ∈ Finset.range 4, term (best (amp x) i) t (Re x (best (amp x) i)) (Im x (best (amp x) i))

end Cert.Round

end
-- ==== Proof.Columns.lean ====
module

public import proofs.«01_k».proof.Proof.TopFour

/-!
# The result, column by column

Both programs give the same array: every column is replaced by the sum of its four chosen waves.
-/

@[expose] public section

noncomputable section

namespace Cert.Round

open Idealize.ShloMosaic

/-- The argument and the result: four batches of 768 columns of 8192 samples. -/
abbrev Samples := FVec Ideal (⟨3, ![4, 8192, 768]⟩ : Shape) .f32

/-- The samples of column `d` of batch `b`. -/
def column (X : Samples) (b : Fin 4) (d : Fin 768) : ℕ → ℝ :=
  fun t => if h : t < 8192 then EReal.toReal (X (ix3 b ⟨t, h⟩ d)) else 0

/-- Every column's sum of four waves. -/
def answers (X : Samples) : Samples :=
  fun i => ((answer (column X (i 0) (i 2)) (i 1).val : ℝ) : EReal)

/-- The samples are real numbers. -/
def AllReal (X : Samples) : Prop := ∀ i, X i ≠ ⊤ ∧ X i ≠ ⊥

/-- A sample is the real number that `column` reads. -/
theorem column_coe (X : Samples) (hX : AllReal X) (b : Fin 4) (d : Fin 768) (t : Fin 8192) :
    X (ix3 b t d) = ((column X b d t.val : ℝ) : EReal) := by
  unfold column
  rw [dif_pos t.isLt]
  exact (EReal.coe_toReal (hX _).1 (hX _).2).symm

end Cert.Round

end
-- ==== Proof.KernelValue.lean ====
module

public import proofs.«01_k».proof.Proof.Block
public import proofs.«01_k».proof.Proof.Tables
public import proofs.«01_k».proof.Proof.Columns

/-!
# The kernel's result array

Each grid point works on one block of 128 columns. Put together, the blocks are the sum of the four chosen waves of every
column.
-/

@[expose] public section

set_option maxRecDepth 16384

noncomputable section

namespace Cert.Round

open Idealize.ShloMosaic Idealize.SL.Sem Cert.KernelIdeal Cert.KernelIdeal.Gen Cert.KernelIdeal.Value Idealize.ShloMosaic.TcCoe

variable (m : (ℓ : Loc nD τ sig) → Buf (Elt Ideal) ℓ) (ρ : Dev nD → PrngReg)

/-- Window 1 brings the whole table. -/
theorem blk1 (c : Dev nD) (t : Fin cfg0.N) : iblk m c 1 t = V m c main_v14 := by
  have hz : (fun a => win0_1.index t a * main_v14.ty.shape.size a) = fun _ => 0 :=
    funext fun a => by fin_cases a <;> exact Nat.zero_mul _
  exact Memref.read_access_unit_zero (Elt Ideal) main_v14 hz (fun a => by rw [congrFun hz a]; simp) (V m c main_v14)

/-- Window 2 brings the whole table. -/
theorem blk2 (c : Dev nD) (t : Fin cfg0.N) : iblk m c 2 t = V m c main_v16 := by
  have hz : (fun a => win0_2.index t a * main_v16.ty.shape.size a) = fun _ => 0 :=
    funext fun a => by fin_cases a <;> exact Nat.zero_mul _
  exact Memref.read_access_unit_zero (Elt Ideal) main_v16 hz (fun a => by rw [congrFun hz a]; simp) (V m c main_v16)

/-- Window 3 brings the whole table. -/
theorem blk3 (c : Dev nD) (t : Fin cfg0.N) : iblk m c 3 t = V m c main_v31 := by
  have hz : (fun a => win0_3.index t a * main_v31.ty.shape.size a) = fun _ => 0 :=
    funext fun a => by fin_cases a <;> exact Nat.zero_mul _
  exact Memref.read_access_unit_zero (Elt Ideal) main_v31 hz (fun a => by rw [congrFun hz a]; simp) (V m c main_v31)

/-- Window 4 brings the whole table. -/
theorem blk4 (c : Dev nD) (t : Fin cfg0.N) : iblk m c 4 t = V m c main_v33 := by
  have hz : (fun a => win0_4.index t a * main_v33.ty.shape.size a) = fun _ => 0 :=
    funext fun a => by fin_cases a <;> exact Nat.zero_mul _
  exact Memref.read_access_unit_zero (Elt Ideal) main_v33 hz (fun a => by rw [congrFun hz a]; simp) (V m c main_v33)

/-- Window 5 brings the whole table. -/
theorem blk5 (c : Dev nD) (t : Fin cfg0.N) : iblk m c 5 t = V m c main_v63 := by
  have hz : (fun a => win0_5.index t a * main_v63.ty.shape.size a) = fun _ => 0 :=
    funext fun a => by fin_cases a <;> exact Nat.zero_mul _
  exact Memref.read_access_unit_zero (Elt Ideal) main_v63 hz (fun a => by rw [congrFun hz a]; simp) (V m c main_v63)

/-- Window 6 brings the whole table. -/
theorem blk6 (c : Dev nD) (t : Fin cfg0.N) : iblk m c 6 t = V m c main_v65 := by
  have hz : (fun a => win0_6.index t a * main_v65.ty.shape.size a) = fun _ => 0 :=
    funext fun a => by fin_cases a <;> exact Nat.zero_mul _
  exact Memref.read_access_unit_zero (Elt Ideal) main_v65 hz (fun a => by rw [congrFun hz a]; simp) (V m c main_v65)

/-- Window 7 brings the whole table. -/
theorem blk7 (c : Dev nD) (t : Fin cfg0.N) : iblk m c 7 t = V m c main_v46 := by
  have hz : (fun a => win0_7.index t a * main_v46.ty.shape.size a) = fun _ => 0 :=
    funext fun a => by fin_cases a <;> exact Nat.zero_mul _
  exact Memref.read_access_unit_zero (Elt Ideal) main_v46 hz (fun a => by rw [congrFun hz a]; simp) (V m c main_v46)

/-- Window 8 brings the whole table. -/
theorem blk8 (c : Dev nD) (t : Fin cfg0.N) : iblk m c 8 t = V m c main_v61 := by
  have hz : (fun a => win0_8.index t a * main_v61.ty.shape.size a) = fun _ => 0 :=
    funext fun a => by fin_cases a <;> exact Nat.zero_mul _
  exact Memref.read_access_unit_zero (Elt Ideal) main_v61 hz (fun a => by rw [congrFun hz a]; simp) (V m c main_v61)

/-- The grid point's two coordinates. -/
theorem coords_val : ∀ t : Fin cfg0.N, win0_0.index t 0 = t.val / 6 ∧ win0_0.index t 1 = 0 ∧ win0_0.index t 2 = t.val % 6 :=
  (by decide +kernel : ∀ t : Fin grid0.N, win0_0.index t 0 = t.val / 6 ∧ win0_0.index t 1 = 0 ∧ win0_0.index t 2 = t.val % 6)

theorem coords_val9 : ∀ t : Fin cfg0.N, win0_9.index t 0 = t.val / 6 ∧ win0_9.index t 1 = 0 ∧ win0_9.index t 2 = t.val % 6 := coords_val

theorem lt24 (t : Fin cfg0.N) : t.val < 24 := lt_of_lt_of_eq t.isLt N_0

/-- The data block's entry. -/
theorem emb0 (t : Fin cfg0.N) (n : Fin 8192) (l : Fin 128) : ((cfg0.win 0).blk t).view.emb (ix3 0 n l)
    = ix3 ⟨t.val / 6, by have := lt24 t; omega⟩ n ⟨128 * (t.val % 6) + l.val, by omega⟩ := by
  obtain ⟨h0, h1, h2⟩ := coords_val t
  funext a
  apply Fin.ext
  match a with
  | ⟨0, _⟩ => show win0_0.index t 0 * 1 + 1 * 0 = t.val / 6; omega
  | ⟨1, _⟩ => show win0_0.index t 1 * 8192 + 1 * n.val = n.val; omega
  | ⟨2, _⟩ => show win0_0.index t 2 * 128 + 1 * l.val = 128 * (t.val % 6) + l.val; omega

/-- The result block's entry. -/
theorem emb9 (t : Fin cfg0.N) (n : Fin 8192) (l : Fin 128) : ((cfg0.win 9).blk t).view.emb (ix3 0 n l)
    = ix3 ⟨t.val / 6, by have := lt24 t; omega⟩ n ⟨128 * (t.val % 6) + l.val, by omega⟩ := by
  obtain ⟨h0, h1, h2⟩ := coords_val9 t
  funext a
  apply Fin.ext
  match a with
  | ⟨0, _⟩ => show win0_9.index t 0 * 1 + 1 * 0 = t.val / 6; omega
  | ⟨1, _⟩ => show win0_9.index t 1 * 8192 + 1 * n.val = n.val; omega
  | ⟨2, _⟩ => show win0_9.index t 2 * 128 + 1 * l.val = 128 * (t.val % 6) + l.val; omega

/-- The data block's entry is the argument's. -/
theorem blk0_apply (c : Dev nD) (t : Fin cfg0.N) (n : Fin 8192) (l : Fin 128) :
    (iblk m c 0 t : Vec Ideal S1x8192x128 .f32) (ix3 0 n l) = (m ((c : Thread nD τ).loc main_arg0) : FVec Ideal S4x8192x768 .f32)
      (ix3 ⟨t.val / 6, by have := lt24 t; omega⟩ n ⟨128 * (t.val % 6) + l.val, by omega⟩) := by
  have h : (iblk m c 0 t : Vec Ideal S1x8192x128 .f32) (ix3 0 n l)
      = (V m c main_arg0 : FVec Ideal S4x8192x768 .f32) (((cfg0.win 0).blk t).view.emb (ix3 0 n l)) := rfl
  rw [h, emb0, V_main_arg0]

/-- One point's result block, at an entry. -/
theorem block_apply (c : Dev nD) (hX : AllReal (m ((c : Thread nD τ).loc main_arg0))) (t : Fin cfg0.N) (n : Fin 8192) (l : Fin 128) :
    out0_9 (iblk m c 0 t) (iblk m c 1 t) (iblk m c 2 t) (iblk m c 3 t) (iblk m c 4 t) (iblk m c 5 t) (iblk m c 6 t)
        (iblk m c 7 t) (iblk m c 8 t) (ix3 0 n l)
      = answers (m ((c : Thread nD τ).loc main_arg0))
          (ix3 ⟨t.val / 6, by have := lt24 t; omega⟩ n ⟨128 * (t.val % 6) + l.val, by omega⟩) := by
  rw [blk1, blk2, blk3, blk4, blk5, blk6, blk7, blk8]
  exact out_apply _ _ _ _ _ _ _ _ _ (tables_hold m c) l
    (column (m ((c : Thread nD τ).loc main_arg0)) ⟨t.val / 6, by have := lt24 t; omega⟩ ⟨128 * (t.val % 6) + l.val, by omega⟩)
    (fun k => (blk0_apply m c t k l).trans (column_coe _ hX _ _ k)) _ (best_next _) n

/-- What a point writes back is its block of `answers`. -/
theorem flushed_eq (c : Dev nD) (hX : AllReal (m ((c : Thread nD τ).loc main_arg0))) (t : Fin cfg0.N) :
    (dats m 0 c).flushed 9 t
      = ((cfg0.win 9).blk t).view.read (Elt Ideal) (answers (m ((c : Thread nD τ).loc main_arg0))) := by
  rw [flushed9]
  funext j
  obtain ⟨i, n, l, rfl⟩ : ∃ (i : Fin 1) (n : Fin 8192) (l : Fin 128), j = ix3 i n l :=
    ⟨j 0, j 1, j 2, funext fun a => by fin_cases a <;> rfl⟩
  obtain rfl : i = 0 := Subsingleton.elim _ _
  show out0_9 (iblk m c 0 t) (iblk m c 1 t) (iblk m c 2 t) (iblk m c 3 t) (iblk m c 4 t) (iblk m c 5 t) (iblk m c 6 t)
      (iblk m c 7 t) (iblk m c 8 t) (ix3 0 n l) = answers (m ((c : Thread nD τ).loc main_arg0)) (((cfg0.win 9).blk t).view.emb (ix3 0 n l))
  rw [emb9]
  exact block_apply m c hX t n l

/-- Every entry of the result array lies in some point's block. -/
theorem covered (i : S4x8192x768.Idx) : ∃ t : Fin cfg0.N, (cfg0.win 9).flush t = true ∧ i ∈ ((cfg0.win 9).blk t).view.set := by
  have hb : (i 0).val < 4 := (i 0).isLt
  have hn : (i 1).val < 8192 := (i 1).isLt
  have hd : (i 2).val < 768 := (i 2).isLt
  have ht : (i 0).val * 6 + (i 2).val / 128 < cfg0.N := lt_of_lt_of_eq (by omega) N_0.symm
  refine ⟨⟨_, ht⟩, flush0_9 _, ?_⟩
  have h := ((cfg0.win 9).blk (⟨_, ht⟩ : Fin cfg0.N)).view.emb_mem_set (ix3 0 ⟨(i 1).val, hn⟩ ⟨(i 2).val % 128, by omega⟩)
  rw [emb9] at h
  refine Eq.subst (motive := fun j : S4x8192x768.Idx => j ∈ ((cfg0.win 9).blk (⟨_, ht⟩ : Fin cfg0.N)).view.set) (Eq.symm ?_) h
  funext a
  apply Fin.ext
  match a with
  | ⟨0, _⟩ => show (i 0).val = ((i 0).val * 6 + (i 2).val / 128) / 6; omega
  | ⟨1, _⟩ => rfl
  | ⟨2, _⟩ => show (i 2).val = 128 * (((i 0).val * 6 + (i 2).val / 128) % 6) + (i 2).val % 128; omega

/-- The result array after the run. -/
theorem final_eq (c : Dev nD) (hX : AllReal (m ((c : Thread nD τ).loc main_arg0))) :
    (dats m 0 c).arrAt 9 cfg0.N = answers (m ((c : Thread nD τ).loc main_arg0)) :=
  (dats m 0 c).arrAt_eq_of_cover 9 _ (fun t _ => flushed_eq m c hX t) covered

/-- The kernel's run ends with the sums of the four chosen waves, the argument unchanged. -/
theorem kernel_run (hX : ∀ c : Dev nD, AllReal (m ((c : Thread nD τ).loc main_arg0))) :
    θ_run defs (onTc (τ := τ) (main (F := Ideal))) ⟨m, fun _ => 0, ρ⟩ fun r => ∀ c : Dev nD,
      r.2.mem ((c : Thread nD τ).loc main_v66) = answers (m ((c : Thread nD τ).loc main_arg0))
      ∧ r.2.mem ((c : Thread nD τ).loc main_arg0) = m ((c : Thread nD τ).loc main_arg0) :=
  (θ_run defs _ _).mono (fun r h c => ⟨(h c).1.trans (final_eq m c (hX c)), (h c).2⟩) (Value.run_blocks m ρ)

end Cert.Round

end
-- ==== Proof.RefSpectrum.lean ====
module

public import proofs.«01_k».proof.Proof.Columns
public import proofs.«01_k».proof.Proof.Turn
public import proofs.«01_k».proof.Proof.Gen.ReferenceIdeal.Read
public import Idealize.ShloMosaic.Lib.Pointwise

/-!
# The reference's spectrum

The reference's tables of cosines and sines, its two parts of the spectrum, its amplitudes and its weights, each read at an entry.
-/

@[expose] public section

set_option maxRecDepth 16384

noncomputable section

namespace Cert.Round

open Idealize.ShloMosaic Cert.ReferenceIdeal Cert.ReferenceIdeal.Read

/-- The table of cosines. -/
theorem ref_cos (f : Fin 4097) (t : Fin 8192) :
    val_main_v10 (F := Ideal) (ix2 f t) = ((Real.cos (angle f.val t.val) : ℝ) : EReal) := by
  have e : val_main_v10 (F := Ideal) (ix2 f t)
      = Ideal.cos (hostAngle (IntOp.muli (BitVec.ofNat 32 f.val) (BitVec.ofNat 32 t.val)) 8192#32 0x39800000#32) := by
    rw [val_main_v10_apply, val_main_v9_apply, val_main_v5_apply, val_main_v4_apply, val_main_v2_apply, val_main_v0_apply,
      val_main_v1_apply, val_main_v3_apply, val_main_c_apply, val_main_v8_apply, val_main_v7_apply, val_main_v6_apply,
      val_main_cst_apply, val_main_cst_0_apply]
    rfl
  have hb : f.val * t.val < 2 ^ 31 := lt_of_le_of_lt (Nat.mul_le_mul f.isLt.le t.isLt.le) (by norm_num)
  rw [e, mul_word, cos_hostAngle _ 8192 _ _ hb (by norm_num) (by norm_num) ofBits_two_inv_n (.inl (by norm_num)), angle]
  congr 2
  push_cast
  ring

/-- The table of sines. -/
theorem ref_sin (f : Fin 4097) (t : Fin 8192) :
    val_main_v11 (F := Ideal) (ix2 f t) = ((Real.sin (angle f.val t.val) : ℝ) : EReal) := by
  have e : val_main_v11 (F := Ideal) (ix2 f t)
      = Ideal.sin (hostAngle (IntOp.muli (BitVec.ofNat 32 f.val) (BitVec.ofNat 32 t.val)) 8192#32 0x39800000#32) := by
    rw [val_main_v11_apply, val_main_v9_apply, val_main_v5_apply, val_main_v4_apply, val_main_v2_apply, val_main_v0_apply,
      val_main_v1_apply, val_main_v3_apply, val_main_c_apply, val_main_v8_apply, val_main_v7_apply, val_main_v6_apply,
      val_main_cst_apply, val_main_cst_0_apply]
    rfl
  have hb : f.val * t.val < 2 ^ 31 := lt_of_le_of_lt (Nat.mul_le_mul f.isLt.le t.isLt.le) (by norm_num)
  rw [e, mul_word, sin_hostAngle _ 8192 _ _ hb (by norm_num) (by norm_num) ofBits_two_inv_n (.inl (by norm_num)), angle]
  congr 2
  push_cast
  ring

variable (X : Samples) (hX : AllReal X)

include hX

/-- The real part of the spectrum. -/
theorem ref_re (b : Fin 4) (f : Fin 4097) (d : Fin 768) :
    val_main_v13 (F := Ideal) X (ix3 b f d) = ((Re (column X b d) f.val : ℝ) : EReal) := by
  have ei : idx_main_v13 (ix3 b f d) = ix3 b d f := funext fun a => by fin_cases a <;> rfl
  rw [val_main_v13_apply, ei, val_main_v12_apply, Re, ← coe_sum]
  refine Finset.sum_congr rfl fun k _ => ?_
  have el : lidx_main_v12 (ix3 b d f) k = ix3 b k d := funext fun a => by fin_cases a <;> rfl
  have er : ridx_main_v12 (ix3 b d f) k = ix2 f k := funext fun a => by fin_cases a <;> rfl
  rw [el, er, ref_cos, column_coe X hX, ← EReal.coe_mul]

/-- The imaginary part of the spectrum. -/
theorem ref_im (b : Fin 4) (f : Fin 4097) (d : Fin 768) :
    val_main_v16 (F := Ideal) X (ix3 b f d) = ((Im (column X b d) f.val : ℝ) : EReal) := by
  have ei : idx_main_v15 (ix3 b f d) = ix3 b d f := funext fun a => by fin_cases a <;> rfl
  have hs : val_main_v15 (F := Ideal) X (ix3 b f d)
      = ((∑ t : Fin 8192, column X b d t.val * Real.sin (angle f.val t.val) : ℝ) : EReal) := by
    rw [val_main_v15_apply, ei, val_main_v14_apply, ← coe_sum]
    refine Finset.sum_congr rfl fun k _ => ?_
    have el : lidx_main_v14 (ix3 b d f) k = ix3 b k d := funext fun a => by fin_cases a <;> rfl
    have er : ridx_main_v14 (ix3 b d f) k = ix2 f k := funext fun a => by fin_cases a <;> rfl
    rw [el, er, ref_sin, column_coe X hX, ← EReal.coe_mul]
  rw [val_main_v16_apply, hs, Im]
  exact (EReal.coe_neg _).symm

/-- The amplitude is the root of the sum of the two squares. -/
theorem ref_amp (b : Fin 4) (d : Fin 768) (f : Fin 4097) :
    val_main_v21 (F := Ideal) X (ix3 b d f) = ((Real.sqrt (amp (column X b d) f.val) : ℝ) : EReal) := by
  have ei : idx_main_v21 (ix3 b d f) = ix3 b f d := funext fun a => by fin_cases a <;> rfl
  rw [val_main_v21_apply, ei, val_main_v20_apply, val_main_v19_apply, val_main_v17_apply, val_main_v18_apply, ref_re X hX,
    ref_im X hX]
  show Ideal.sqrt (((Re (column X b d) f.val : ℝ) : EReal) * ((Re (column X b d) f.val : ℝ) : EReal)
      + ((Im (column X b d) f.val : ℝ) : EReal) * ((Im (column X b d) f.val : ℝ) : EReal)) = _
  rw [← EReal.coe_mul, ← EReal.coe_mul, ← EReal.coe_add, ← amp]
  rw [Ideal.sqrt_coe, if_neg]
  exact not_lt.mpr (add_nonneg (mul_self_nonneg _) (mul_self_nonneg _))

omit hX in
/-- The weights. -/
theorem ref_weight (f : Fin 4097) (t : Fin 8192) : val_main_v58 (F := Ideal) (ix2 f t) = ((weight f.val : ℝ) : EReal) := by
  have hw : ∀ n : ℕ, n < 2 ^ 32 → IntOp.cmpi .eq (BitVec.ofNat 32 f.val) (BitVec.ofNat 32 n) = BitVec.ofBool (decide (f.val = n)) := by
    intro n hn
    have : (BitVec.ofNat 32 f.val == BitVec.ofNat 32 n) = decide (f.val = n) := by
      rw [Bool.eq_iff_iff, beq_iff_eq, decide_eq_true_iff]
      constructor
      · intro h
        have h' := congrArg BitVec.toNat h
        rw [BitVec.toNat_ofNat, BitVec.toNat_ofNat, Nat.mod_eq_of_lt (by have := f.isLt; omega), Nat.mod_eq_of_lt hn] at h'
        exact h'
      · intro h; rw [h]
    simp [IntOp.cmpi, this]
  rw [val_main_v58_apply, val_main_v57_apply, val_main_v54_apply, val_main_v56_apply, val_main_v0_apply, val_main_v53_apply,
    val_main_c_9_apply, val_main_v55_apply, val_main_c_10_apply, val_main_call0_v0_apply, val_main_call0_v1_apply,
    val_main_cst_11_apply, val_main_cst_12_apply]
  show Scalar.select (IntOp.ori (IntOp.cmpi .eq (BitVec.ofNat 32 f.val) (BitVec.ofNat 32 0))
    (IntOp.cmpi .eq (BitVec.ofNat 32 f.val) (BitVec.ofNat 32 4096))) (Ideal.ofBits .f32 0x39000000#32) (Ideal.ofBits .f32 0x39800000#32) = _
  rw [hw 0 (by norm_num), hw 4096 (by norm_num), ofBits_inv_n, ofBits_two_inv_n, weight]
  by_cases h0 : f.val = 0
  · simp [h0, Scalar.select, IntOp.ori]
  · by_cases h1 : f.val = 4096
    · simp [h1, Scalar.select, IntOp.ori]
    · simp [h0, h1, Scalar.select, IntOp.ori]

end Cert.Round

end
-- ==== Proof.Ranking.lean ====
module

public import proofs.«01_k».proof.Proof.TopFour
public import Idealize.ShloMosaic.Lib.SortPrefix

/-!
# A stable sort by amplitude starts with the four chosen frequencies

The reference sorts the frequencies by amplitude, greatest first, equal ones in their order, and keeps the first four.
-/

@[expose] public section

noncomputable section

namespace Cert.Round

open Idealize.ShloMosaic

/-- Sorts first: the greater score, or the same score at a lower position. -/
def ahead {n : ℕ} (key : Fin n → ℝ) (k k' : Fin n) : Bool :=
  decide (key k' < key k) || (decide (key k = key k') && decide (k < k'))

/-- This is a strict total order on the positions. -/
theorem ahead_total {n : ℕ} (key : Fin n → ℝ) : StrictTotalBefore (ahead key) :=
  StrictTotalBefore.of_key_then_position (fun a b : ℝ => decide (b < a)) key (fun a => by simp)
    (fun a b c hab hbc => by simp only [decide_eq_true_eq] at *; exact lt_trans hbc hab)
    (fun a b => by
      simp only [decide_eq_true_eq]
      rcases lt_trichotomy a b with h | h | h
      · exact .inr (.inr h)
      · exact .inr (.inl h)
      · exact .inl h)

/-- On increasing positions a stable sort by the score alone is the sort by the score and then the position. -/
theorem stableSort_ahead {n : ℕ} (key : Fin n → ℝ) (l : List (Fin n)) (hl : l.Pairwise (· < ·)) :
    stableSort (fun k k' => decide (key k' < key k)) l = stableSort (ahead key) l := by
  induction l with
  | nil => rfl
  | cons a l ih =>
    rw [List.pairwise_cons] at hl
    unfold stableSort
    rw [ih hl.2]
    refine insertBefore_congr _ _ _ _ fun b hb => ?_
    have hab : a < b := hl.1 b ((perm_stableSort _ l).mem_iff.mp hb)
    simp [ahead, not_lt.mpr hab.le]

/-- So the sorted positions agree. -/
theorem sortedFrom_ahead {n : ℕ} (key : Fin n → ℝ) (i : Fin n) :
    sortedFrom (fun k k' => decide (key k' < key k)) i = sortedFrom (ahead key) i := by
  have h : sortPositions n (fun k k' => decide (key k' < key k)) = sortPositions n (ahead key) :=
    stableSort_ahead key _ (List.pairwise_lt_finRange n)
  unfold sortedFrom
  simp only [List.get_eq_getElem, h]
  rfl

/-- The chosen frequencies are frequencies. -/
theorem best_lt (a : ℕ → ℝ) (i : Fin 4) : best a i.val < 4097 := by
  have := (best_next a i.val i.isLt).le
  omega

/-- The `i`-th place of the sort holds the `i`-th choice. -/
theorem sortedFrom_best (a : ℕ → ℝ) (key : Fin 4097 → ℝ) (hk : ∀ f f' : Fin 4097, key f < key f' ↔ a f.val < a f'.val) (i : Fin 4) :
    sortedFrom (fun k k' => decide (key k' < key k)) (i.castLE (by norm_num)) = ⟨best a i.val, best_lt a i⟩ := by
  have ahead_false : ∀ p q : Fin 4097, (a p.val ≤ a q.val ∧ (a p.val = a q.val → q.val ≤ p.val)) → ahead key p q = false := by
    intro p q ⟨h1, h2⟩
    have hnot : ¬ key q < key p := by rw [hk]; exact not_lt.mpr h1
    by_cases he : key p = key q
    · have hnot' : ¬ key p < key q := by rw [he]; exact lt_irrefl _
      rw [hk] at hnot'
      have := h2 (le_antisymm h1 (not_lt.mp hnot'))
      simp [ahead, hnot, he, Fin.lt_def, not_lt.mpr this]
    · simp [ahead, hnot, he]
  rw [sortedFrom_ahead]
  refine (ahead_total key).sortedFrom_eq_of_prefix (by norm_num) (fun i : Fin 4 => ⟨best a i.val, best_lt a i⟩) ?_ ?_ ?_ i
  · intro i j h
    exact Fin.ext (best_inj a i.val j.val i.isLt j.isLt (congrArg Fin.val h))
  · intro i j hij
    refine ahead_false _ _ ((best_next a i.val i.isLt).best _ (best_next a j.val j.isLt).le fun hm => ?_)
    obtain ⟨r, hr, he⟩ := Finset.mem_image.1 hm
    rw [Finset.mem_range] at hr
    have := best_inj a r j.val (by omega) j.isLt he
    have : i.val < j.val := hij
    omega
  · intro i p hp
    refine ahead_false _ _ ((best_next a i.val i.isLt).best _ (by omega) fun hm => ?_)
    obtain ⟨r, hr, he⟩ := Finset.mem_image.1 hm
    rw [Finset.mem_range] at hr
    exact hp ⟨r, by omega⟩ (Fin.ext he)

end Cert.Round

end
-- ==== Proof.TopRow.lean ====
module

public import proofs.«01_k».proof.Proof.Ranking
public import Idealize.ShloMosaic.Lib.Pointwise

/-!
# The positions of the greatest entries of a row

The positions a top-k gives for one row come from a stable sort of that row's positions.
-/

@[expose] public section

noncomputable section

namespace Cert.Round

open Idealize.ShloMosaic

/-- The second result of a sort of two operands. -/
theorem sort2_snd {α β : Type} (s : Shape) (d : ℕ) (hd : d < s.rank) (cmp : α × β → α × β → BitVec 1) (x : s.Idx → α) (y : s.Idx → β)
    (j : s.Idx) : (Host.sort2 s d cmp x y).2 j = y (j.along ⟨d, hd⟩
      (sortedFrom (fun k k' => cmp (x (j.along ⟨d, hd⟩ k), y (j.along ⟨d, hd⟩ k)) (x (j.along ⟨d, hd⟩ k'), y (j.along ⟨d, hd⟩ k')) == 1#1)
        (j ⟨d, hd⟩))) := by
  unfold Host.sort2
  rw [dif_pos hd]

variable {n0 n1 n k : ℕ}

/-- Moving along the last axis. -/
theorem along_last (b : Fin n0) (d : Fin n1) (p q : Fin n) :
    (ix3 b d p : (⟨3, ![n0, n1, n]⟩ : Shape).Idx).along (2 : Fin 3) q = ix3 b d q := by
  unfold Shape.Idx.along
  funext a
  match a with
  | ⟨0, _⟩ => exact Function.update_of_ne (Fin.ne_of_val_ne (show (0 : ℕ) ≠ 2 by decide)) _ _
  | ⟨1, _⟩ => exact Function.update_of_ne (Fin.ne_of_val_ne (show (1 : ℕ) ≠ 2 by decide)) _ _
  | ⟨2, _⟩ => exact Function.update_self _ _ _

/-- Keeping the first `k` entries of each row. -/
theorem slice_last {α : Type} (y : (⟨3, ![n0, n1, n]⟩ : Shape).Idx → α)
    (h : (⟨3, ![n0, n1, n]⟩ : Shape).Slices (fun _ => 0) ⟨3, ![n0, n1, k]⟩) (hk : k ≤ n) (b : Fin n0) (d : Fin n1) (i : Fin k) :
    extractStridedSlice ⟨3, ![n0, n1, k]⟩ (fun _ => 0) y h (ix3 b d i) = y (ix3 b d (i.castLE hk)) := by
  unfold extractStridedSlice
  congr 1
  funext a
  apply Fin.ext
  match a with
  | ⟨0, _⟩ => exact Nat.zero_add _
  | ⟨1, _⟩ => exact Nat.zero_add _
  | ⟨2, _⟩ => exact Nat.zero_add _

/-- The positions of the greatest entries of row `(b, d)`. -/
theorem topK_row (A : FVec Ideal (⟨3, ![n0, n1, n]⟩ : Shape) .f32)
    (h : (⟨3, ![n0, n1, n]⟩ : Shape).Slices (fun _ => 0) ⟨3, ![n0, n1, k]⟩) (hk : k ≤ n) (b : Fin n0) (d : Fin n1) (i : Fin k) :
    (Host.topK ⟨3, ![n0, n1, k]⟩ 2 (FloatOps.cmpfTotal .gt) A h).2 (ix3 b d i)
      = BitVec.ofNat 32 (sortedFrom (fun p q : Fin n => Ideal.cmp .ogt (A (ix3 b d p)) (A (ix3 b d q)) == 1#1) (i.castLE hk)).val := by
  unfold Host.topK
  dsimp only
  rw [slice_last _ _ hk, sort2_snd _ _ (Nat.lt_succ_self 2)]
  rw [dif_pos (Nat.lt_succ_self 2)]
  show iotaInDim ⟨3, ![n0, n1, n]⟩ 32 (2 : Fin 3) ((ix3 b d (i.castLE hk) : (⟨3, ![n0, n1, n]⟩ : Shape).Idx).along (2 : Fin 3)
    (sortedFrom (fun p q : Fin n =>
      Ideal.cmp .ogt (A ((ix3 b d (i.castLE hk) : (⟨3, ![n0, n1, n]⟩ : Shape).Idx).along (2 : Fin 3) p))
        (A ((ix3 b d (i.castLE hk) : (⟨3, ![n0, n1, n]⟩ : Shape).Idx).along (2 : Fin 3) q)) == 1#1) (i.castLE hk))) = _
  simp only [along_last]
  rfl

end Cert.Round

end
-- ==== Proof.RefIndices.lean ====
module

public import proofs.«01_k».proof.Proof.RefSpectrum
public import proofs.«01_k».proof.Proof.TopRow
public import Idealize.ShloMosaic.Lib.Routing.OpsSet
public import Idealize.ShloMosaic.Lib.Routing.OpsPair

/-!
# The reference's mask

The reference's four sorted positions are the four chosen frequencies, and its mask is one on them and zero elsewhere.
-/

@[expose] public section

set_option maxRecDepth 16384

noncomputable section

namespace Cert.Round

open Idealize.ShloMosaic Cert.ReferenceIdeal Cert.ReferenceIdeal.Gen Cert.ReferenceIdeal.Read

variable (X : Samples) (hX : AllReal X)

include hX

/-- The four positions are the four choices. -/
theorem ref_indices (b : Fin 4) (d : Fin 768) (k : Fin 4) :
    val_main_indices (F := Ideal) X (ix3 b d k) = BitVec.ofNat 32 (best (amp (column X b d)) k.val) := by
  rw [val_main_indices, topK_row _ _ (by norm_num)]
  have e : (fun p q : Fin 4097 => Ideal.cmp .ogt (val_main_v21 (F := Ideal) X (ix3 b d p)) (val_main_v21 (F := Ideal) X (ix3 b d q)) == 1#1)
      = fun p q : Fin 4097 => decide (Real.sqrt (amp (column X b d) q.val) < Real.sqrt (amp (column X b d) p.val)) := by
    funext p q
    rw [ref_amp X hX, ref_amp X hX, Bool.eq_iff_iff, beq_iff_eq, decide_eq_true_iff]
    exact (Ideal.cmp_ogt_eq_one _ _).trans EReal.coe_lt_coe_iff
  rw [e, sortedFrom_best (amp (column X b d)) (fun p => Real.sqrt (amp (column X b d) p.val))]
  intro f f'
  exact Real.sqrt_lt_sqrt_iff (add_nonneg (mul_self_nonneg _) (mul_self_nonneg _))

omit hX in
/-- A small word is not negative, so it is not moved. -/
theorem not_moved (n : ℕ) (hn : n < 2 ^ 31) (w : BitVec 32) :
    Scalar.select (IntOp.cmpi .slt (BitVec.ofNat 32 n) 0#32) w (BitVec.ofNat 32 n) = BitVec.ofNat 32 n := by
  have h : (BitVec.ofNat 32 n).slt 0#32 = false := by
    rw [Bool.eq_false_iff, ne_eq, BitVec.slt_iff_toInt_lt, toInt_ofNat hn, BitVec.toInt_zero]
    omega
  simp [IntOp.cmpi, h, Scalar.select]

omit hX in
/-- The batch coordinate of an update. -/
theorem ref_coord0 (b : Fin 4) (d : Fin 768) (k : Fin 4) : val_main_v47 (F := Ideal) X (ix4 b d k 0) = BitVec.ofNat 32 b.val := by
  have e : val_main_v47 (F := Ideal) X (ix4 b d k 0) = val_main_v44 (F := Ideal) (ix4 b d k 0) := by
    pointwise [val_main_v47]
  rw [e, val_main_v44_apply, val_main_v42_apply, val_main_v31_apply, val_main_v28_apply, val_main_v27_apply, val_main_c_2_apply,
    val_main_v23_apply, val_main_v22_apply]
  exact not_moved b.val (by omega) _

omit hX in
/-- The column coordinate of an update. -/
theorem ref_coord1 (b : Fin 4) (d : Fin 768) (k : Fin 4) : val_main_v47 (F := Ideal) X (ix4 b d k 1) = BitVec.ofNat 32 d.val := by
  have e : val_main_v47 (F := Ideal) X (ix4 b d k 1) = val_main_v45 (F := Ideal) (ix4 b d k 0) := by
    pointwise [val_main_v47]
  rw [e, val_main_v45_apply, val_main_v43_apply, val_main_v36_apply, val_main_v33_apply, val_main_v32_apply, val_main_c_4_apply,
    val_main_v25_apply, val_main_v24_apply]
  exact not_moved d.val (by omega) _

/-- The frequency coordinate of an update. -/
theorem ref_coord2 (b : Fin 4) (d : Fin 768) (k : Fin 4) :
    val_main_v47 (F := Ideal) X (ix4 b d k 2) = BitVec.ofNat 32 (best (amp (column X b d)) k.val) := by
  have e : val_main_v47 (F := Ideal) X (ix4 b d k 2) = val_main_v46 (F := Ideal) X (ix4 b d k 0) := by
    pointwise [val_main_v47]
  have ei : idx_main_v46 (ix4 b d k 0) = ix3 b d k := funext fun a => by fin_cases a <;> rfl
  rw [e, val_main_v46_apply, ei, val_main_v41_apply, val_main_v38_apply, val_main_v37_apply, val_main_c_6_apply, ref_indices X hX]
  exact not_moved _ (by have := best_lt (amp (column X b d)) k; omega) _

omit hX in
/-- An update's window is one entry. -/
theorem window_eq (k : S4x768x4.Idx) (a : Fin 3) : scatter_S4x768x4097_S4x768x4x3_S4x768x4_n_012_012_3.window k a = 0 := by
  unfold ScatterDims.window
  rw [dif_neg]
  revert a
  decide

omit hX in
/-- Where an update starts, axis by axis. -/
theorem start_eq (idx : IVec S4x768x4x3 32) (b : Fin 4) (d : Fin 768) (k : Fin 4) (a : Fin 3) :
    scatter_S4x768x4097_S4x768x4x3_S4x768x4_n_012_012_3.start (ix3 b d k) idx a = (idx (ix4 b d k a)).toInt := by
  unfold ScatterDims.start
  rw [dif_pos (by revert a; decide)]
  congr 2
  fin_cases a <;> (funext e; fin_cases e <;> rfl)

omit hX in
/-- Where an update lands. -/
theorem lands_iff (idx : IVec S4x768x4x3 32) (b' : Fin 4) (d' : Fin 768) (k : Fin 4) (b : Fin 4) (d : Fin 768) (f : Fin 4097) :
    scatter_S4x768x4097_S4x768x4x3_S4x768x4_n_012_012_3.resultIdx? (ix3 b' d' k) idx = some (ix3 b d f)
      ↔ (idx (ix4 b' d' k 0)).toInt = (b.val : Int) ∧ (idx (ix4 b' d' k 1)).toInt = (d.val : Int)
        ∧ (idx (ix4 b' d' k 2)).toInt = (f.val : Int) := by
  rw [Routing.resultIdx?_eq_some]
  have h : ∀ a : Fin 3, scatter_S4x768x4097_S4x768x4x3_S4x768x4_n_012_012_3.start (ix3 b' d' k) idx a
      + ((scatter_S4x768x4097_S4x768x4x3_S4x768x4_n_012_012_3.window (ix3 b' d' k) a : ℕ) : Int) = (idx (ix4 b' d' k a)).toInt := by
    intro a
    rw [start_eq, window_eq]
    exact Int.add_zero _
  constructor
  · intro q
    exact ⟨(h 0).symm.trans (q 0), (h 1).symm.trans (q 1), (h 2).symm.trans (q 2)⟩
  · rintro ⟨q0, q1, q2⟩ a
    match a with
    | ⟨0, _⟩ => exact (h 0).trans q0
    | ⟨1, _⟩ => exact (h 1).trans q1
    | ⟨2, _⟩ => exact (h 2).trans q2

/-- The mask is one on the chosen frequencies of the column and zero elsewhere. -/
theorem ref_mask (b : Fin 4) (d : Fin 768) (f : Fin 4097) : val_main_v50 (F := Ideal) X (ix3 b f d)
    = (((if f.val ∈ (Finset.range 4).image (best (amp (column X b d))) then 1 else 0 : ℝ)) : EReal) := by
  have lands : ∀ (b' : Fin 4) (d' : Fin 768) (k : Fin 4),
      scatter_S4x768x4097_S4x768x4x3_S4x768x4_n_012_012_3.resultIdx? (ix3 b' d' k) (val_main_v47 (F := Ideal) X) = some (ix3 b d f)
        ↔ b' = b ∧ d' = d ∧ best (amp (column X b' d')) k.val = f.val := by
    intro b' d' k
    have hb := best_lt (amp (column X b' d')) k
    rw [lands_iff, ref_coord0, ref_coord1, ref_coord2 X hX, toInt_ofNat (by omega), toInt_ofNat (by omega), toInt_ofNat (by omega),
      Nat.cast_inj, Nat.cast_inj, Nat.cast_inj, Fin.val_inj, Fin.val_inj]
  have hk : ∀ k : S4x768x4.Idx, ∃ (b' : Fin 4) (d' : Fin 768) (k' : Fin 4), k = ix3 b' d' k' := fun k =>
    ⟨k 0, k 1, k 2, funext fun a => by fin_cases a <;> rfl⟩
  have ei : idx_main_v50 (ix3 b f d) = ix3 b d f := funext fun a => by fin_cases a <;> rfl
  rw [val_main_v50_apply, ei, val_main_v49]
  by_cases hf : f.val ∈ (Finset.range 4).image (best (amp (column X b d)))
  · rw [if_pos hf]
    obtain ⟨k, hk4, he⟩ := Finset.mem_image.1 hf
    rw [Finset.mem_range] at hk4
    refine Routing.scatter_set_hit _ _ _ _ _ _ (fun k' _ => ?_) (ix3 b d ⟨k, hk4⟩) ((lands b d ⟨k, hk4⟩).2 ⟨rfl, rfl, he⟩)
    rw [val_main_v48_apply, val_main_cst_8_apply]
    show Ideal.ofBits .f32 0x3F800000#32 = _
    simp [Ideal.ofBits, Ideal.ieee, -EReal.coe_mul, -EReal.coe_neg]
    norm_num
  · rw [if_neg hf, Routing.scatter_set_miss]
    · rw [val_main_v26_apply, val_main_cst_1_apply]
      show Ideal.ofBits .f32 0x00000000#32 = _
      simp [Ideal.ofBits, Ideal.ieee, -EReal.coe_mul, -EReal.coe_neg]
    · intro k hl
      obtain ⟨b', d', k', rfl⟩ := hk k
      obtain ⟨rfl, rfl, he⟩ := (lands b' d' k').1 hl
      exact hf (Finset.mem_image.2 ⟨k'.val, Finset.mem_range.2 k'.isLt, he⟩)

end Cert.Round

end
-- ==== Proof.RefValue.lean ====
module

public import proofs.«01_k».proof.Proof.RefIndices

/-!
# The reference's result

The masked inverse transform of a column is the sum of its four chosen waves.
-/

@[expose] public section

set_option maxRecDepth 16384

noncomputable section

namespace Cert.Round

open Idealize.ShloMosaic Cert.ReferenceIdeal Cert.ReferenceIdeal.Gen Cert.ReferenceIdeal.Read

/-- A sum over all frequencies of masked terms is the sum over the four choices. -/
theorem masked_sum (a : ℕ → ℝ) (g : ℕ → ℝ) :
    ∑ f : Fin 4097, (if f.val ∈ (Finset.range 4).image (best a) then 1 else 0) * g f.val = ∑ i ∈ Finset.range 4, g (best a i) := by
  rw [Fin.sum_univ_eq_sum_range (fun f => (if f ∈ (Finset.range 4).image (best a) then 1 else 0) * g f) 4097]
  simp only [ite_mul, one_mul, zero_mul]
  rw [← Finset.sum_filter, Finset.filter_mem_eq_inter]
  have hs : Finset.range 4097 ∩ (Finset.range 4).image (best a) = (Finset.range 4).image (best a) := by
    rw [Finset.inter_eq_right]
    intro f hf
    obtain ⟨i, hi, rfl⟩ := Finset.mem_image.1 hf
    rw [Finset.mem_range] at hi ⊢
    exact best_lt a ⟨i, hi⟩
  rw [hs, Finset.sum_image]
  intro i hi j hj he
  exact best_inj a i j (by simpa using hi) (by simpa using hj) he

variable (X : Samples) (hX : AllReal X)

include hX

/-- The cosine half of the inverse transform. -/
theorem ref_inv_cos (b : Fin 4) (d : Fin 768) (t : Fin 8192) : val_main_v60 (F := Ideal) X (ix3 b d t)
    = ((∑ i ∈ Finset.range 4, weight (best (amp (column X b d)) i) * (Re (column X b d) (best (amp (column X b d)) i)
        * Real.cos (angle (best (amp (column X b d)) i) t.val)) : ℝ) : EReal) := by
  rw [val_main_v60_apply, ← masked_sum (amp (column X b d)) fun f => weight f * (Re (column X b d) f * Real.cos (angle f t.val)), ← coe_sum]
  refine Finset.sum_congr rfl fun f _ => ?_
  have el : lidx_main_v60 (ix3 b d t) f = ix3 b f d := funext fun a => by fin_cases a <;> rfl
  have er : ridx_main_v60 (ix3 b d t) f = ix2 f t := funext fun a => by fin_cases a <;> rfl
  rw [el, er, val_main_v51_apply, val_main_v59_apply, ref_re X hX, ref_mask X hX, ref_weight, ref_cos]
  generalize (if f.val ∈ (Finset.range 4).image (best (amp (column X b d))) then (1 : ℝ) else 0) = u
  show (((Re (column X b d) f.val : ℝ) : EReal) * (u : EReal)) * (((weight f.val : ℝ) : EReal) * ((Real.cos (angle f.val t.val) : ℝ) : EReal)) = _
  rw [← EReal.coe_mul, ← EReal.coe_mul, ← EReal.coe_mul]
  congr 1
  ring

/-- The sine half of the inverse transform. -/
theorem ref_inv_sin (b : Fin 4) (d : Fin 768) (t : Fin 8192) : val_main_v63 (F := Ideal) X (ix3 b d t)
    = ((∑ i ∈ Finset.range 4, weight (best (amp (column X b d)) i) * (Im (column X b d) (best (amp (column X b d)) i)
        * Real.sin (angle (best (amp (column X b d)) i) t.val)) : ℝ) : EReal) := by
  rw [val_main_v63_apply, ← masked_sum (amp (column X b d)) fun f => weight f * (Im (column X b d) f * Real.sin (angle f t.val)), ← coe_sum]
  refine Finset.sum_congr rfl fun f _ => ?_
  have el : lidx_main_v63 (ix3 b d t) f = ix3 b f d := funext fun a => by fin_cases a <;> rfl
  have er : ridx_main_v63 (ix3 b d t) f = ix2 f t := funext fun a => by fin_cases a <;> rfl
  rw [el, er, val_main_v52_apply, val_main_v62_apply, ref_im X hX, ref_mask X hX, ref_weight, ref_sin]
  generalize (if f.val ∈ (Finset.range 4).image (best (amp (column X b d))) then (1 : ℝ) else 0) = u
  show (((Im (column X b d) f.val : ℝ) : EReal) * (u : EReal)) * (((weight f.val : ℝ) : EReal) * ((Real.sin (angle f.val t.val) : ℝ) : EReal)) = _
  rw [← EReal.coe_mul, ← EReal.coe_mul, ← EReal.coe_mul]
  congr 1
  ring

/-- The reference's result is the sum of the four chosen waves of every column. -/
theorem ref_value : val_main_v65 (F := Ideal) X = answers X := by
  funext j
  obtain ⟨b, t, d, rfl⟩ : ∃ (b : Fin 4) (t : Fin 8192) (d : Fin 768), j = ix3 b t d :=
    ⟨j 0, j 1, j 2, funext fun a => by fin_cases a <;> rfl⟩
  have e1 : idx_main_v61 (ix3 b t d) = ix3 b d t := funext fun a => by fin_cases a <;> rfl
  have e2 : idx_main_v64 (ix3 b t d) = ix3 b d t := funext fun a => by fin_cases a <;> rfl
  rw [val_main_v65_apply, val_main_v61_apply, val_main_v64_apply, e1, e2, ref_inv_cos X hX, ref_inv_sin X hX]
  show _ = ((answer (column X b d) t.val : ℝ) : EReal)
  refine (EReal.coe_sub _ _).symm.trans ?_
  congr 1
  rw [answer, ← Finset.sum_sub_distrib]
  refine Finset.sum_congr rfl fun i _ => ?_
  rw [term]
  ring

end Cert.Round

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs and leaves its argument and every counter as they were. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ∧ r.2.sem = fun _ => 0) :=
  (θ_run Cert.ReferenceIdeal.defs _ _).mono (fun r h => ⟨fun c => (h c).2,
    Idealize.ShloMosaic.sem_eq_zero_of_no_sems (by decide) r.2⟩) (Cert.ReferenceIdeal.Value.run (F := Ideal) m ρ)

/-- An extended real of absolute value below `⊤` is neither `⊤` nor `⊥`. -/
theorem real_of_abs_lt (x : EReal) (h : max x (-x) < ⊤) : x ≠ ⊤ ∧ x ≠ ⊥ := by
  rw [max_lt_iff] at h
  refine ⟨h.1.ne, fun e => ?_⟩
  rw [e] at h
  exact absurd h.2 (by simp)

/-- The float word of plus infinity is `⊤`. -/
theorem word_top : Ideal.ofBits .f32 0x7F800000#32 = ⊤ := by simp [Ideal.ofBits, Ideal.ieee]

/-- Under the precondition every sample is a real number. -/
theorem allReal_of_finite (X : Cert.Round.Samples)
    (h : @Cert.Pre_finite.fn Cert.Pre_finite.Gen.facts Ideal _ X = fun _ => 1#1) : Cert.Round.AllReal X := by
  intro i
  have hi : Ideal.cmp .olt (max (X i : EReal) (-(X i : EReal))) (Ideal.ofBits .f32 0x7F800000#32) = 1#1 := congrFun h i
  rw [word_top] at hi
  exact real_of_abs_lt _ ((Ideal.cmp_olt_eq_one _ _).1 hi)

/-- Kernel and reference end with the same array. -/
theorem values : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have hX : ∀ c : Dev Cert.KernelIdeal.nD,
      Cert.Round.AllReal (m ((c.tc : Thread Cert.KernelIdeal.nD Cert.KernelIdeal.τ).loc Cert.KernelIdeal.main_arg0)) :=
    fun c => allReal_of_finite _ (hpre c)
  refine ⟨fun c => Cert.Round.answers (m ((c.tc : Thread Cert.KernelIdeal.nD Cert.KernelIdeal.τ).loc Cert.KernelIdeal.main_arg0)),
    Cert.Round.kernel_run m g hX, ?_⟩
  refine (θ_run Cert.ReferenceIdeal.defs _ _).mono (fun r h c => ⟨(h c).1.trans ?_, (h c).2⟩) (Cert.ReferenceIdeal.Value.run (F := Ideal) m' g')
  refine (Cert.ReferenceIdeal.Read.val_main_v65_eq m' c).trans ?_
  refine (congrArg (Cert.ReferenceIdeal.Read.val_main_v65 (F := Ideal)) (hargs c)).trans ?_
  exact Cert.Round.ref_value _ (hX c)

/-- Everything the certificate claims. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m ρ _ => frame_reference m ρ,
  fun m ρ _ => frame_reference m ρ,
  ⟨IdealRules.named_const.statement Cert.KernelIdeal.κ "turn_n" .f32 0x3A490FDB#32 (((1 / 4096) * Real.pi : ℝ) : EReal) rfl,
    IdealRules.named_const.statement Cert.KernelIdeal.κ "turn_n2" .f32 0x3D490FDB#32 (((1 / 64) * Real.pi : ℝ) : EReal) rfl⟩,
  values⟩

end Cert.Proof

end
